-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_inputs [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))).1 = (fun _ => 1#1)
    ∧ (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))).2.1 = (fun _ => 1#1)
    ∧ (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))).2.2.1 = (fun _ => 1#1)
    ∧ (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))).2.2.2.1 = (fun _ => 1#1)
    ∧ (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))).2.2.2.2.1 = (fun _ => 1#1)
    ∧ (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))).2.2.2.2.2.1 = (fun _ => 1#1)
    ∧ (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))).2.2.2.2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_inputs [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))).1 = (fun _ => 1#1)
    ∧ (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))).2.1 = (fun _ => 1#1)
    ∧ (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))).2.2.1 = (fun _ => 1#1)
    ∧ (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))).2.2.2.1 = (fun _ => 1#1)
    ∧ (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))).2.2.2.2.1 = (fun _ => 1#1)
    ∧ (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))).2.2.2.2.2.1 = (fun _ => 1#1)
    ∧ (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))).2.2.2.2.2.2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ r.2.sem = fun _ => 0)

def quiescent_KernelIdeal_pre_finite_inputs [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_inputs m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))
      ∧ r.2.sem = fun _ => 0)

def quiescent_ReferenceIdeal_pre_finite_inputs [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_inputs m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))
      ∧ r.2.sem = fun _ => 0)

def preserves_Kernel_KernelIdeal : Prop :=
  True

def algebraic_KernelIdeal_ReferenceIdeal_pre_finite_inputs [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_inputs m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v0_0)) (v1 : (c : Dev Cert.KernelIdeal.nD) → Buf (Elt Ideal) ((c.tc : Thread Cert.KernelIdeal.nD Cert.KernelIdeal.τ).loc Cert.KernelIdeal.main_v0_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0_0) = v0 c
          ∧ r.2.mem ((c.tc : Thread Cert.KernelIdeal.nD Cert.KernelIdeal.τ).loc Cert.KernelIdeal.main_v0_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v30) = v0 c
          ∧ r.2.mem ((c.tc : Thread Cert.ReferenceIdeal.nD Cert.ReferenceIdeal.τ).loc Cert.ReferenceIdeal.main_v61) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    quiescent_Kernel (hKernel := hKernel)
    ∧ quiescent_KernelIdeal (hKernelIdeal := hKernelIdeal)
    ∧ quiescent_KernelIdeal_pre_finite_inputs (hKernelIdeal := hKernelIdeal) (hPre_finite_inputs := hPre_finite_inputs)
    ∧ quiescent_ReferenceIdeal (hReferenceIdeal := hReferenceIdeal)
    ∧ quiescent_ReferenceIdeal_pre_finite_inputs (hReferenceIdeal := hReferenceIdeal) (hPre_finite_inputs := hPre_finite_inputs)
    ∧ preserves_Kernel_KernelIdeal
    ∧ algebraic_KernelIdeal_ReferenceIdeal_pre_finite_inputs (hKernelIdeal := hKernelIdeal) (hReferenceIdeal := hReferenceIdeal) (hPre_finite_inputs := hPre_finite_inputs)
-- ==== Pre_finite_inputs.lean ====
abbrev S2x4096x2048 : Shape := ⟨3, ![2, 4096, 2048]⟩
abbrev S64x2048 : Shape := ⟨2, ![64, 2048]⟩
abbrev S16x64 : Shape := ⟨2, ![16, 64]⟩
abbrev S1024x64 : Shape := ⟨2, ![1024, 64]⟩
abbrev S16x2048 : Shape := ⟨2, ![16, 2048]⟩
abbrev S_ : Shape := ⟨0, ![]⟩

class Facts : Prop where
  bcast_S_S2x4096x2048 : S_.BroadcastsInDim S2x4096x2048 (![] : Fin 0 → Fin S2x4096x2048.rank)
  bcast_S_S64x2048 : S_.BroadcastsInDim S64x2048 (![] : Fin 0 → Fin S64x2048.rank)
  bcast_S_S16x64 : S_.BroadcastsInDim S16x64 (![] : Fin 0 → Fin S16x64.rank)
  bcast_S_S1024x64 : S_.BroadcastsInDim S1024x64 (![] : Fin 0 → Fin S1024x64.rank)
  bcast_S_S16x2048 : S_.BroadcastsInDim S16x2048 (![] : Fin 0 → Fin S16x2048.rank)

variable [Facts]

def fn_part1 {F : FTy → Type} [FloatOps F] (main_arg9 : FVec F S16x2048 .f32) (main_v2 : IVec S2x4096x2048 1) (main_v5 : IVec S64x2048 1) (main_v8 : IVec S64x2048 1) (main_v11 : IVec S16x64 1) (main_v14 : IVec S64x2048 1) (main_v17 : IVec S1024x64 1) : IVec S2x4096x2048 1 × IVec S64x2048 1 × IVec S64x2048 1 × IVec S16x64 1 × IVec S64x2048 1 × IVec S1024x64 1 × IVec S16x2048 1 :=
  let main_v18 : FVec F S16x2048 .f32 := Host.absf main_arg9
  let main_cst_5 : FVec F S_ .f32 := constant S_ .f32 0x7F800000#32
  let main_v19 : FVec F S16x2048 .f32 := broadcastInDim S16x2048 ![] bcast_S_S16x2048 main_cst_5
  let main_v20 : IVec S16x2048 1 := cmpf .olt main_v18 main_v19
  (main_v2, main_v5, main_v8, main_v11, main_v14, main_v17, main_v20)

def fn {F : FTy → Type} [FloatOps F] (main_arg0 : FVec F S2x4096x2048 .f32) (main_arg1 : FVec F S64x2048 .f32) (main_arg2 : FVec F S64x2048 .f32) (main_arg3 : FVec F S64x2048 .f32) (main_arg4 : FVec F S64x2048 .f32) (main_arg5 : FVec F S16x64 .f32) (main_arg6 : FVec F S16x64 .f32) (main_arg7 : FVec F S64x2048 .f32) (main_arg8 : FVec F S1024x64 .f32) (main_arg9 : FVec F S16x2048 .f32) : IVec S2x4096x2048 1 × IVec S64x2048 1 × IVec S64x2048 1 × IVec S16x64 1 × IVec S64x2048 1 × IVec S1024x64 1 × IVec S16x2048 1 :=
  let main_v0 : FVec F S2x4096x2048 .f32 := Host.absf main_arg0
  let main_cst : FVec F S_ .f32 := constant S_ .f32 0x7F800000#32
  let main_v1 : FVec F S2x4096x2048 .f32 := broadcastInDim S2x4096x2048 ![] bcast_S_S2x4096x2048 main_cst
  let main_v2 : IVec S2x4096x2048 1 := cmpf .olt main_v0 main_v1
  let main_v3 : FVec F S64x2048 .f32 := Host.absf main_arg2
  let main_cst_0 : FVec F S_ .f32 := constant S_ .f32 0x7F800000#32
  let main_v4 : FVec F S64x2048 .f32 := broadcastInDim S64x2048 ![] bcast_S_S64x2048 main_cst_0
  let main_v5 : IVec S64x2048 1 := cmpf .olt main_v3 main_v4
  let main_v6 : FVec F S64x2048 .f32 := Host.absf main_arg4
  let main_cst_1 : FVec F S_ .f32 := constant S_ .f32 0x7F800000#32
  let main_v7 : FVec F S64x2048 .f32 := broadcastInDim S64x2048 ![] bcast_S_S64x2048 main_cst_1
  let main_v8 : IVec S64x2048 1 := cmpf .olt main_v6 main_v7
  let main_v9 : FVec F S16x64 .f32 := Host.absf main_arg6
  let main_cst_2 : FVec F S_ .f32 := constant S_ .f32 0x7F800000#32
  let main_v10 : FVec F S16x64 .f32 := broadcastInDim S16x64 ![] bcast_S_S16x64 main_cst_2
  let main_v11 : IVec S16x64 1 := cmpf .olt main_v9 main_v10
  let main_v12 : FVec F S64x2048 .f32 := Host.absf main_arg7
  let main_cst_3 : FVec F S_ .f32 := constant S_ .f32 0x7F800000#32
  let main_v13 : FVec F S64x2048 .f32 := broadcastInDim S64x2048 ![] bcast_S_S64x2048 main_cst_3
  let main_v14 : IVec S64x2048 1 := cmpf .olt main_v12 main_v13
  let main_v15 : FVec F S1024x64 .f32 := Host.absf main_arg8
  let main_cst_4 : FVec F S_ .f32 := constant S_ .f32 0x7F800000#32
  let main_v16 : FVec F S1024x64 .f32 := broadcastInDim S1024x64 ![] bcast_S_S1024x64 main_cst_4
  let main_v17 : IVec S1024x64 1 := cmpf .olt main_v15 main_v16
  fn_part1 (F := F) main_arg9 main_v2 main_v5 main_v8 main_v11 main_v14 main_v17
-- ==== Kernel.lean ====
abbrev S2x4096x2048 : Shape := ⟨3, ![2, 4096, 2048]⟩
abbrev S64x2048 : Shape := ⟨2, ![64, 2048]⟩
abbrev S16x64 : Shape := ⟨2, ![16, 64]⟩
abbrev S1024x64 : Shape := ⟨2, ![1024, 64]⟩
abbrev S16x2048 : Shape := ⟨2, ![16, 2048]⟩
abbrev S2x128x64 : Shape := ⟨3, ![2, 128, 64]⟩
abbrev S2x2048x64 : Shape := ⟨3, ![2, 2048, 64]⟩
abbrev S2x256x64 : Shape := ⟨3, ![2, 256, 64]⟩
abbrev S2x4096x64 : Shape := ⟨3, ![2, 4096, 64]⟩
abbrev S1x512x2048 : Shape := ⟨3, ![1, 512, 2048]⟩
abbrev S1x32x64 : Shape := ⟨3, ![1, 32, 64]⟩
abbrev S1x512x64 : Shape := ⟨3, ![1, 512, 64]⟩
abbrev S128x64 : Shape := ⟨2, ![128, 64]⟩
abbrev S512x2048 : Shape := ⟨2, ![512, 2048]⟩
abbrev S512x64 : Shape := ⟨2, ![512, 64]⟩
abbrev S32x16x64 : Shape := ⟨3, ![32, 16, 64]⟩
abbrev S1x16x64 : Shape := ⟨3, ![1, 16, 64]⟩
abbrev S32x64 : Shape := ⟨2, ![32, 64]⟩
abbrev S32x1x64 : Shape := ⟨3, ![32, 1, 64]⟩
abbrev S512x1024 : Shape := ⟨2, ![512, 1024]⟩
abbrev S512x16 : Shape := ⟨2, ![512, 16]⟩
abbrev S512x128 : Shape := ⟨2, ![512, 128]⟩
abbrev S512x1 : Shape := ⟨2, ![512, 1]⟩
abbrev S128x128 : Shape := ⟨2, ![128, 128]⟩
abbrev S1x128x64 : Shape := ⟨3, ![1, 128, 64]⟩
abbrev S256x64 : Shape := ⟨2, ![256, 64]⟩
abbrev S512x256 : Shape := ⟨2, ![512, 256]⟩
abbrev S256x256 : Shape := ⟨2, ![256, 256]⟩

abbrev nBuf : Space → Nat
  | .hbm => 16
  | .vmem => 28
  | .smem => 0
  | _ => 0

abbrev bufTy : (tb : Table) → Fin (tcTables nBuf tb) → BufTy
  | .hbm, ⟨0, _⟩ => ⟨S2x4096x2048, .f32⟩
  | .hbm, ⟨1, _⟩ => ⟨S64x2048, .f32⟩
  | .hbm, ⟨2, _⟩ => ⟨S64x2048, .f32⟩
  | .hbm, ⟨3, _⟩ => ⟨S64x2048, .f32⟩
  | .hbm, ⟨4, _⟩ => ⟨S64x2048, .f32⟩
  | .hbm, ⟨5, _⟩ => ⟨S16x64, .f32⟩
  | .hbm, ⟨6, _⟩ => ⟨S16x64, .f32⟩
  | .hbm, ⟨7, _⟩ => ⟨S64x2048, .f32⟩
  | .hbm, ⟨8, _⟩ => ⟨S1024x64, .f32⟩
  | .hbm, ⟨9, _⟩ => ⟨S16x2048, .f32⟩
  | .hbm, ⟨10, _⟩ => ⟨S2x128x64, .f32⟩
  | .hbm, ⟨11, _⟩ => ⟨S2x2048x64, .i32⟩
  | .hbm, ⟨12, _⟩ => ⟨S2x128x64, .f32⟩
  | .hbm, ⟨13, _⟩ => ⟨S2x2048x64, .i32⟩
  | .hbm, ⟨14, _⟩ => ⟨S2x256x64, .f32⟩
  | .hbm, ⟨15, _⟩ => ⟨S2x4096x64, .i32⟩
  | .local _ .vmem, ⟨0, _⟩ => ⟨S1x512x2048, .f32⟩
  | .local _ .vmem, ⟨1, _⟩ => ⟨S1x512x2048, .f32⟩
  | .local _ .vmem, ⟨2, _⟩ => ⟨S64x2048, .f32⟩
  | .local _ .vmem, ⟨3, _⟩ => ⟨S64x2048, .f32⟩
  | .local _ .vmem, ⟨4, _⟩ => ⟨S16x64, .f32⟩
  | .local _ .vmem, ⟨5, _⟩ => ⟨S64x2048, .f32⟩
  | .local _ .vmem, ⟨6, _⟩ => ⟨S1024x64, .f32⟩
  | .local _ .vmem, ⟨7, _⟩ => ⟨S16x2048, .f32⟩
  | .local _ .vmem, ⟨8, _⟩ => ⟨S1x32x64, .f32⟩
  | .local _ .vmem, ⟨9, _⟩ => ⟨S1x32x64, .f32⟩
  | .local _ .vmem, ⟨10, _⟩ => ⟨S1x512x64, .i32⟩
  | .local _ .vmem, ⟨11, _⟩ => ⟨S1x512x64, .i32⟩
  | .local _ .vmem, ⟨12, _⟩ => ⟨S128x64, .f32⟩
  | .local _ .vmem, ⟨13, _⟩ => ⟨S1x512x2048, .f32⟩
  | .local _ .vmem, ⟨14, _⟩ => ⟨S1x512x2048, .f32⟩
  | .local _ .vmem, ⟨15, _⟩ => ⟨S64x2048, .f32⟩
  | .local _ .vmem, ⟨16, _⟩ => ⟨S64x2048, .f32⟩
  | .local _ .vmem, ⟨17, _⟩ => ⟨S16x64, .f32⟩
  | .local _ .vmem, ⟨18, _⟩ => ⟨S64x2048, .f32⟩
  | .local _ .vmem, ⟨19, _⟩ => ⟨S1024x64, .f32⟩
  | .local _ .vmem, ⟨20, _⟩ => ⟨S16x2048, .f32⟩
  | .local _ .vmem, ⟨21, _⟩ => ⟨S1x128x64, .f32⟩
  | .local _ .vmem, ⟨22, _⟩ => ⟨S1x128x64, .f32⟩
  | .local _ .vmem, ⟨23, _⟩ => ⟨S1x32x64, .f32⟩
  | .local _ .vmem, ⟨24, _⟩ => ⟨S1x32x64, .f32⟩
  | .local _ .vmem, ⟨25, _⟩ => ⟨S1x512x64, .i32⟩
  | .local _ .vmem, ⟨26, _⟩ => ⟨S1x512x64, .i32⟩
  | .local _ .vmem, ⟨27, _⟩ => ⟨S256x64, .f32⟩
  | _, _ => ⟨S2x4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | _, _ => false

abbrev semScoped : Fin 0 → Bool
  | ⟨_, h⟩ => absurd h (Nat.not_lt_zero _)

abbrev dmaSemScoped : Fin 26 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | _ => false

abbrev sig : RefSig :=
  ofTc nBuf bufTy 0 26 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_call0_v0_0 : Ref sig .tc := ⟨.hbm, 10, rfl⟩
abbrev main_call0_v0_1 : Ref sig .tc := ⟨.hbm, 11, rfl⟩
abbrev main_call0_v1_0 : Ref sig .tc := ⟨.hbm, 12, rfl⟩
abbrev main_call0_v1_1 : Ref sig .tc := ⟨.hbm, 13, rfl⟩
abbrev main_v0_0 : Ref sig .tc := ⟨.hbm, 14, rfl⟩
abbrev main_v0_1 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg7_1 : Ref sig .tc := ⟨.vmem, 9, rfl⟩
abbrev cc0_stg8_0 : Ref sig .tc := ⟨.vmem, 10, rfl⟩
abbrev cc0_stg8_1 : Ref sig .tc := ⟨.vmem, 11, rfl⟩
abbrev cc0_scratch0 : Ref sig .tc := ⟨.vmem, 12, rfl⟩
abbrev cc1_stg0_0 : Ref sig .tc := ⟨.vmem, 13, rfl⟩
abbrev cc1_stg0_1 : Ref sig .tc := ⟨.vmem, 14, rfl⟩
abbrev cc1_stg1_0 : Ref sig .tc := ⟨.vmem, 15, rfl⟩
abbrev cc1_stg2_0 : Ref sig .tc := ⟨.vmem, 16, rfl⟩
abbrev cc1_stg3_0 : Ref sig .tc := ⟨.vmem, 17, rfl⟩
abbrev cc1_stg4_0 : Ref sig .tc := ⟨.vmem, 18, rfl⟩
abbrev cc1_stg5_0 : Ref sig .tc := ⟨.vmem, 19, rfl⟩
abbrev cc1_stg6_0 : Ref sig .tc := ⟨.vmem, 20, rfl⟩
abbrev cc1_stg7_0 : Ref sig .tc := ⟨.vmem, 21, rfl⟩
abbrev cc1_stg7_1 : Ref sig .tc := ⟨.vmem, 22, rfl⟩
abbrev cc1_stg8_0 : Ref sig .tc := ⟨.vmem, 23, rfl⟩
abbrev cc1_stg8_1 : Ref sig .tc := ⟨.vmem, 24, rfl⟩
abbrev cc1_stg9_0 : Ref sig .tc := ⟨.vmem, 25, rfl⟩
abbrev cc1_stg9_1 : Ref sig .tc := ⟨.vmem, 26, rfl⟩
abbrev cc1_scratch0 : Ref sig .tc := ⟨.vmem, 27, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem7_1 : DmaSem sig := 9
abbrev cc0_sem8_0 : DmaSem sig := 10
abbrev cc0_sem8_1 : DmaSem sig := 11
abbrev cc1_sem0_0 : DmaSem sig := 12
abbrev cc1_sem0_1 : DmaSem sig := 13
abbrev cc1_sem1_0 : DmaSem sig := 14
abbrev cc1_sem2_0 : DmaSem sig := 15
abbrev cc1_sem3_0 : DmaSem sig := 16
abbrev cc1_sem4_0 : DmaSem sig := 17
abbrev cc1_sem5_0 : DmaSem sig := 18
abbrev cc1_sem6_0 : DmaSem sig := 19
abbrev cc1_sem7_0 : DmaSem sig := 20
abbrev cc1_sem7_1 : DmaSem sig := 21
abbrev cc1_sem8_0 : DmaSem sig := 22
abbrev cc1_sem8_1 : DmaSem sig := 23
abbrev cc1_sem9_0 : DmaSem sig := 24
abbrev cc1_sem9_1 : DmaSem sig := 25

abbrev nD : Nat := 1
abbrev τ : Topo := Topo.v7x

variable {F : FTy → Type} [FloatOps F]

abbrev grid0 : Pipeline.Grid := ⟨2, ![2, 4], ![false, false]⟩

def k0_off1 (i : grid0.Coords) : Fin 2 → Nat :=
  let arg1 : BitVec 32 := BitVec.ofNat 32 (i 1).val
  let c32_i32 : BitVec 32 := 32#32
  let v26 : BitVec 32 := Scalar.muli arg1 c32_i32
  let v27 : Index := Scalar.indexCast v26
  let c0_15 : Index := 0#32
  ![v27.toNat, 0]
def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S64x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S64x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S16x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S64x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1024x64 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S16x2048 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 2 → Memref sig .tc .vmem S1x32x64 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x512x64 .i32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev grid1 : Pipeline.Grid := ⟨2, ![2, 4], ![false, false]⟩

def k1_off1 (i : grid1.Coords) : Fin 2 → Nat :=
  let c128_i32 : BitVec 32 := 128#32
  let arg1 : BitVec 32 := BitVec.ofNat 32 (i 1).val
  let c32_i32 : BitVec 32 := 32#32
  let v29 : BitVec 32 := Scalar.muli arg1 c32_i32
  let v30 : BitVec 32 := Scalar.addi c128_i32 v29
  let v31 : Index := Scalar.indexCast v30
  let c0_16 : Index := 0#32
  ![v31.toNat, 0]
def cc1_transform_0 (i : grid1.Coords) : Fin 3 → Nat :=
  let arg0 : BitVec 32 := BitVec.ofNat 32 (i 0).val
  let arg1 : BitVec 32 := BitVec.ofNat 32 (i 1).val
  let c4_i32 : BitVec 32 := 4#32
  let v0 : BitVec 32 := Scalar.addi arg1 c4_i32
  let c0_i32 : BitVec 32 := 0#32
  let c0_i32_0 : BitVec 32 := 0#32
  ![arg0.toNat, v0.toNat, c0_i32.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc1_transform_8 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc1_transform_9 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage1_0 : Fin 2 → Memref sig .tc .vmem S1x512x2048 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 1 → Memref sig .tc .vmem S64x2048 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false, false]

abbrev stage1_2 : Fin 1 → Memref sig .tc .vmem S64x2048 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false, false]

abbrev stage1_3 : Fin 1 → Memref sig .tc .vmem S16x64 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false, false]

abbrev stage1_4 : Fin 1 → Memref sig .tc .vmem S64x2048 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false, false]

abbrev stage1_5 : Fin 1 → Memref sig .tc .vmem S1024x64 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false, false]

abbrev stage1_6 : Fin 1 → Memref sig .tc .vmem S16x2048 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false, false]

abbrev stage1_7 : Fin 2 → Memref sig .tc .vmem S1x128x64 .f32 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true, false]

abbrev stage1_8 : Fin 2 → Memref sig .tc .vmem S1x32x64 .f32 := fun | 0 => Memref.whole cc1_stg8_0 | 1 => Memref.whole cc1_stg8_1 | ⟨_ + 2, h⟩ => absurd h (Nat.not_lt.2 (Nat.le_add_left _ _))
abbrev sem1_8 : Fin 2 → DmaSem sig := fun | 0 => cc1_sem8_0 | 1 => cc1_sem8_1 | ⟨_ + 2, h⟩ => absurd h (Nat.not_lt.2 (Nat.le_add_left _ _))
abbrev reads1_8 : Fin grid1.rank → Bool := ![true, true]

abbrev stage1_9 : Fin 2 → Memref sig .tc .vmem S1x512x64 .i32 := fun | 0 => Memref.whole cc1_stg9_0 | 1 => Memref.whole cc1_stg9_1 | ⟨_ + 2, h⟩ => absurd h (Nat.not_lt.2 (Nat.le_add_left _ _))
abbrev sem1_9 : Fin 2 → DmaSem sig := fun | 0 => cc1_sem9_0 | 1 => cc1_sem9_1 | ⟨_ + 2, h⟩ => absurd h (Nat.not_lt.2 (Nat.le_add_left _ _))
abbrev reads1_9 : Fin grid1.rank → Bool := ![true, true]
-- ==== ReferenceIdeal.lean ====
abbrev S2x4096x2048 : Shape := ⟨3, ![2, 4096, 2048]⟩
abbrev S64x2048 : Shape := ⟨2, ![64, 2048]⟩
abbrev S16x64 : Shape := ⟨2, ![16, 64]⟩
abbrev S1024x64 : Shape := ⟨2, ![1024, 64]⟩
abbrev S16x2048 : Shape := ⟨2, ![16, 2048]⟩
abbrev S2048x64 : Shape := ⟨2, ![2048, 64]⟩
abbrev S2x4096x64 : Shape := ⟨3, ![2, 4096, 64]⟩
abbrev S2x256x16x64 : Shape := ⟨4, ![2, 256, 16, 64]⟩
abbrev S1x1x16x64 : Shape := ⟨4, ![1, 1, 16, 64]⟩
abbrev S_ : Shape := ⟨0, ![]⟩
abbrev S2x256x64 : Shape := ⟨3, ![2, 256, 64]⟩
abbrev S2x256x1x64 : Shape := ⟨4, ![2, 256, 1, 64]⟩
abbrev S64x1024 : Shape := ⟨2, ![64, 1024]⟩
abbrev S2x4096x1024 : Shape := ⟨3, ![2, 4096, 1024]⟩
abbrev S2x4096x16x64 : Shape := ⟨4, ![2, 4096, 16, 64]⟩
abbrev S2048x16 : Shape := ⟨2, ![2048, 16]⟩
abbrev S2x4096x16 : Shape := ⟨3, ![2, 4096, 16]⟩
abbrev S2x4096x16x256 : Shape := ⟨4, ![2, 4096, 16, 256]⟩
abbrev S2x4096x16x1 : Shape := ⟨4, ![2, 4096, 16, 1]⟩
abbrev S2x4096x256 : Shape := ⟨3, ![2, 4096, 256]⟩
abbrev S4096 : Shape := ⟨1, ![4096]⟩
abbrev S4096x1 : Shape := ⟨2, ![4096, 1]⟩
abbrev S256 : Shape := ⟨1, ![256]⟩
abbrev S1x256 : Shape := ⟨2, ![1, 256]⟩
abbrev S4096x256 : Shape := ⟨2, ![4096, 256]⟩
abbrev S1x4096x256 : Shape := ⟨3, ![1, 4096, 256]⟩

abbrev nBuf : Space → Nat
  | .hbm => 90
  | .vmem => 0
  | .smem => 0
  | _ => 0

abbrev bufTy : (tb : Table) → Fin (tcTables nBuf tb) → BufTy
  | .hbm, ⟨0, _⟩ => ⟨S2x4096x2048, .f32⟩
  | .hbm, ⟨1, _⟩ => ⟨S64x2048, .f32⟩
  | .hbm, ⟨2, _⟩ => ⟨S64x2048, .f32⟩
  | .hbm, ⟨3, _⟩ => ⟨S64x2048, .f32⟩
  | .hbm, ⟨4, _⟩ => ⟨S64x2048, .f32⟩
  | .hbm, ⟨5, _⟩ => ⟨S16x64, .f32⟩
  | .hbm, ⟨6, _⟩ => ⟨S16x64, .f32⟩
  | .hbm, ⟨7, _⟩ => ⟨S64x2048, .f32⟩
  | .hbm, ⟨8, _⟩ => ⟨S1024x64, .f32⟩
  | .hbm, ⟨9, _⟩ => ⟨S16x2048, .f32⟩
  | .hbm, ⟨10, _⟩ => ⟨S2048x64, .f32⟩
  | .hbm, ⟨11, _⟩ => ⟨S2x4096x64, .f32⟩
  | .hbm, ⟨12, _⟩ => ⟨S2048x64, .f32⟩
  | .hbm, ⟨13, _⟩ => ⟨S2x4096x64, .f32⟩
  | .hbm, ⟨14, _⟩ => ⟨S2048x64, .f32⟩
  | .hbm, ⟨15, _⟩ => ⟨S2x4096x64, .f32⟩
  | .hbm, ⟨16, _⟩ => ⟨S2048x64, .f32⟩
  | .hbm, ⟨17, _⟩ => ⟨S2x4096x64, .f32⟩
  | .hbm, ⟨18, _⟩ => ⟨S2x256x16x64, .f32⟩
  | .hbm, ⟨19, _⟩ => ⟨S2x256x16x64, .f32⟩
  | .hbm, ⟨20, _⟩ => ⟨S2x256x16x64, .f32⟩
  | .hbm, ⟨21, _⟩ => ⟨S1x1x16x64, .f32⟩
  | .hbm, ⟨22, _⟩ => ⟨S2x256x16x64, .f32⟩
  | .hbm, ⟨23, _⟩ => ⟨S2x256x16x64, .f32⟩
  | .hbm, ⟨24, _⟩ => ⟨S2x256x16x64, .f32⟩
  | .hbm, ⟨25, _⟩ => ⟨S1x1x16x64, .f32⟩
  | .hbm, ⟨26, _⟩ => ⟨S2x256x16x64, .f32⟩
  | .hbm, ⟨27, _⟩ => ⟨S2x256x16x64, .f32⟩
  | .hbm, ⟨28, _⟩ => ⟨S_, .f32⟩
  | .hbm, ⟨29, _⟩ => ⟨S2x256x64, .f32⟩
  | .hbm, ⟨30, _⟩ => ⟨S_, .f32⟩
  | .hbm, ⟨31, _⟩ => ⟨S2x256x64, .f32⟩
  | .hbm, ⟨32, _⟩ => ⟨S2x256x64, .f32⟩
  | .hbm, ⟨33, _⟩ => ⟨S2x256x1x64, .f32⟩
  | .hbm, ⟨34, _⟩ => ⟨S2x256x16x64, .f32⟩
  | .hbm, ⟨35, _⟩ => ⟨S2x256x16x64, .f32⟩
  | .hbm, ⟨36, _⟩ => ⟨S2x256x16x64, .f32⟩
  | .hbm, ⟨37, _⟩ => ⟨S_, .f32⟩
  | .hbm, ⟨38, _⟩ => ⟨S2x256x64, .f32⟩
  | .hbm, ⟨39, _⟩ => ⟨S2x256x1x64, .f32⟩
  | .hbm, ⟨40, _⟩ => ⟨S2x256x16x64, .f32⟩
  | .hbm, ⟨41, _⟩ => ⟨S2x256x16x64, .f32⟩
  | .hbm, ⟨42, _⟩ => ⟨S2x256x16x64, .f32⟩
  | .hbm, ⟨43, _⟩ => ⟨S_, .f32⟩
  | .hbm, ⟨44, _⟩ => ⟨S2x256x64, .f32⟩
  | .hbm, ⟨45, _⟩ => ⟨S2048x64, .f32⟩
  | .hbm, ⟨46, _⟩ => ⟨S2x4096x64, .f32⟩
  | .hbm, ⟨47, _⟩ => ⟨S64x1024, .f32⟩
  | .hbm, ⟨48, _⟩ => ⟨S2x4096x1024, .f32⟩
  | .hbm, ⟨49, _⟩ => ⟨S2x4096x16x64, .f32⟩
  | .hbm, ⟨50, _⟩ => ⟨S2048x16, .f32⟩
  | .hbm, ⟨51, _⟩ => ⟨S2x4096x16, .f32⟩
  | .hbm, ⟨52, _⟩ => ⟨S2x4096x16x256, .f32⟩
  | .hbm, ⟨53, _⟩ => ⟨S_, .f32⟩
  | .hbm, ⟨54, _⟩ => ⟨S2x4096x16x256, .f32⟩
  | .hbm, ⟨55, _⟩ => ⟨S2x4096x16x256, .f32⟩
  | .hbm, ⟨56, _⟩ => ⟨S2x4096x16x1, .f32⟩
  | .hbm, ⟨57, _⟩ => ⟨S2x4096x16x256, .f32⟩
  | .hbm, ⟨58, _⟩ => ⟨S2x4096x16x256, .f32⟩
  | .hbm, ⟨59, _⟩ => ⟨S_, .f32⟩
  | .hbm, ⟨60, _⟩ => ⟨S2x4096x256, .f32⟩
  | .hbm, ⟨61, _⟩ => ⟨S4096, .i32⟩
  | .hbm, ⟨62, _⟩ => ⟨S4096x1, .i32⟩
  | .hbm, ⟨63, _⟩ => ⟨S256, .i32⟩
  | .hbm, ⟨64, _⟩ => ⟨S1x256, .i32⟩
  | .hbm, ⟨65, _⟩ => ⟨S_, .i32⟩
  | .hbm, ⟨66, _⟩ => ⟨S1x256, .i32⟩
  | .hbm, ⟨67, _⟩ => ⟨S1x256, .i32⟩
  | .hbm, ⟨68, _⟩ => ⟨S_, .i32⟩
  | .hbm, ⟨69, _⟩ => ⟨S1x256, .i32⟩
  | .hbm, ⟨70, _⟩ => ⟨S1x256, .i32⟩
  | .hbm, ⟨71, _⟩ => ⟨S4096x256, .i32⟩
  | .hbm, ⟨72, _⟩ => ⟨S4096x256, .i32⟩
  | .hbm, ⟨73, _⟩ => ⟨S4096x256, .i1⟩
  | .hbm, ⟨74, _⟩ => ⟨S1x4096x256, .i1⟩
  | .hbm, ⟨75, _⟩ => ⟨S_, .f32⟩
  | .hbm, ⟨76, _⟩ => ⟨S_, .f32⟩
  | .hbm, ⟨77, _⟩ => ⟨S2x4096x256, .i1⟩
  | .hbm, ⟨78, _⟩ => ⟨S2x4096x256, .f32⟩
  | .hbm, ⟨79, _⟩ => ⟨S2x4096x256, .f32⟩
  | .hbm, ⟨80, _⟩ => ⟨S2x4096x64, .f32⟩
  | .hbm, ⟨81, _⟩ => ⟨S2x4096x64, .i32⟩
  | .hbm, ⟨82, _⟩ => ⟨S2x4096x64, .f32⟩
  | .hbm, ⟨83, _⟩ => ⟨S_, .f32⟩
  | .hbm, ⟨84, _⟩ => ⟨S2x4096x64, .f32⟩
  | .hbm, ⟨85, _⟩ => ⟨S2x4096x64, .i1⟩
  | .hbm, ⟨86, _⟩ => ⟨S_, .i32⟩
  | .hbm, ⟨87, _⟩ => ⟨S_, .i32⟩
  | .hbm, ⟨88, _⟩ => ⟨S2x4096x64, .i32⟩
  | .hbm, ⟨89, _⟩ => ⟨S2x4096x64, .i32⟩
  | _, _ => ⟨S2x4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_cst : Ref sig .tc := ⟨.hbm, 28, rfl⟩
abbrev main_v18 : Ref sig .tc := ⟨.hbm, 29, rfl⟩
abbrev main_cst_0 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_cst_1 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_cst_2 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_cst_3 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_cst_4 : Ref sig .tc := ⟨.hbm, 59, rfl⟩
abbrev main_v44 : Ref sig .tc := ⟨.hbm, 60, rfl⟩
abbrev main_v45 : Ref sig .tc := ⟨.hbm, 61, rfl⟩
abbrev main_v46 : Ref sig .tc := ⟨.hbm, 62, rfl⟩
abbrev main_v47 : Ref sig .tc := ⟨.hbm, 63, rfl⟩
abbrev main_v48 : Ref sig .tc := ⟨.hbm, 64, rfl⟩
abbrev main_c : Ref sig .tc := ⟨.hbm, 65, rfl⟩
abbrev main_v49 : Ref sig .tc := ⟨.hbm, 66, rfl⟩
abbrev main_v50 : Ref sig .tc := ⟨.hbm, 67, rfl⟩
abbrev main_c_5 : Ref sig .tc := ⟨.hbm, 68, rfl⟩
abbrev main_v51 : Ref sig .tc := ⟨.hbm, 69, rfl⟩
abbrev main_v52 : Ref sig .tc := ⟨.hbm, 70, rfl⟩
abbrev main_v53 : Ref sig .tc := ⟨.hbm, 71, rfl⟩
abbrev main_v54 : Ref sig .tc := ⟨.hbm, 72, rfl⟩
abbrev main_v55 : Ref sig .tc := ⟨.hbm, 73, rfl⟩
abbrev main_v56 : Ref sig .tc := ⟨.hbm, 74, rfl⟩
abbrev main_cst_6 : Ref sig .tc := ⟨.hbm, 75, rfl⟩
abbrev main_call0_v0 : Ref sig .tc := ⟨.hbm, 76, rfl⟩
abbrev main_call0_v1 : Ref sig .tc := ⟨.hbm, 77, rfl⟩
abbrev main_call0_v2 : Ref sig .tc := ⟨.hbm, 78, rfl⟩
abbrev main_v57 : Ref sig .tc := ⟨.hbm, 79, rfl⟩
abbrev main_values : Ref sig .tc := ⟨.hbm, 80, rfl⟩
abbrev main_indices : Ref sig .tc := ⟨.hbm, 81, rfl⟩
abbrev main_v58 : Ref sig .tc := ⟨.hbm, 82, rfl⟩
abbrev main_cst_7 : Ref sig .tc := ⟨.hbm, 83, rfl⟩
abbrev main_v59 : Ref sig .tc := ⟨.hbm, 84, rfl⟩
abbrev main_v60 : Ref sig .tc := ⟨.hbm, 85, rfl⟩
abbrev main_c_8 : Ref sig .tc := ⟨.hbm, 86, rfl⟩
abbrev main_call1_v0 : Ref sig .tc := ⟨.hbm, 87, rfl⟩
abbrev main_call1_v1 : Ref sig .tc := ⟨.hbm, 88, rfl⟩
abbrev main_v61 : Ref sig .tc := ⟨.hbm, 89, rfl⟩

abbrev nD : Nat := 1
abbrev τ : Topo := Topo.v7x

variable {F : FTy → Type} [FloatOps F]
-- ==== Proof.KiNet.lean ====
module

public import proofs.«01_k».proof.Proof.Gen.KernelIdeal.Launch
public import proofs.«01_k».proof.Proof.Gen.KernelIdeal.Skeleton
public import proofs.«01_k».proof.Proof.Gen.KernelIdeal.Points
public import proofs.«01_k».proof.Proof.Gen.KernelIdeal.Regions
public import Idealize.ShloMosaic.Lib.Pipeline.FrameBody
public import Idealize.ShloMosaic.Lib.Ring
public import Idealize.ShloMosaic.Lib.Tactic
public import Idealize.ShloMosaic.Lib.WordCmp

@[expose] public section

set_option maxRecDepth 65536

noncomputable section

namespace Cert.KernelIdeal.Run

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

/-- The block positions call 0 stores, from the indexer queries, the head weights, the scratch rows and the first
    head terms: the other heads, the causal mask and the sorting network. -/
def tail0 (arg1 : BitVec 32) (v34 : FVec F S512x1024 .f32) (v36 : FVec F S512x16 .f32) (v37 : Vec F S128x64 .f32) (v70 : FVec F S512x128 .f32) (v74 : FVec F S512x128 .f32) : IVec S512x64 32 :=
  let v118 : FVec F S512x128 .f32 := k0_pay11 v34 v36 v37 v70 v74
  let v122 : FVec F S512x128 .f32 := k0_pay12 v34 v37
  let v169 : IVec S512x128 32 := iota .tc S512x128 32 [0] iota_S512x128_d0_w32
  let v166 : FVec F S512x128 .f32 := k0_pay13 v34 v36 v37 v118 v122
  let v170 : IVec S512x128 32 := k0_pay14 arg1
  let v180 : IVec S512x128 32 := iota .tc S512x128 32 [1] iota_S512x128_d1_w32
  let v179 : FVec F S512x128 .f32 := k0_pay15 v166 v169 v170
  let v184 : IVec S512x128 1 := k0_pay16
  let v188 : IVec S512x128 1 := k0_pay17
  let v192 : IVec S512x128 1 := k0_pay18
  let v196 : IVec S512x128 1 := k0_pay19
  let v200 : IVec S512x128 1 := k0_pay20
  let v204 : IVec S512x128 1 := k0_pay21
  let v208 : IVec S512x128 1 := k0_pay22
  let v210 : IVec S512x128 32 := k0_pay23
  let v211 : IVec S512x128 32 := k0_pay24
  let v212 : IVec S512x128 1 := k0_pay25 v210 v211
  let v216 : IVec S512x128 1 := k0_pay26 v180
  let v220 : IVec S512x128 1 := k0_pay27 v180
  let v224 : IVec S512x128 1 := k0_pay28 v180
  let v228 : IVec S512x128 1 := k0_pay29 v180
  let v236 : FVec F S128x128 .bf16 := k0_pay30 (F := F)
  let v244 : FVec F S128x128 .bf16 := k0_pay31 (F := F)
  let v252 : FVec F S128x128 .bf16 := k0_pay32 (F := F)
  let v259 : FVec F S128x128 .f32 := k0_pay33 (F := F)
  let cst_92 : IVec S512x128 1 := constantI S512x128 1 1#1
  let v260 : FVec F S128x128 .bf16 := k0_pay34 v259
  let v268 : FVec F S128x128 .bf16 := k0_pay35 (F := F)
  let v276 : FVec F S128x128 .bf16 := k0_pay36 (F := F)
  let v306 : FVec F S512x128 .f32 := k0_pay46 v179 v180 v184 v188 v208 v212 v236 v244
  let v307 : FVec F S512x128 .bf16 := k0_pay47 v179 v180 v184 v188 v208 v212 v236 v244
  let v308 : IVec S512x128 1 := k0_pay48 v184 v212
  let v351 : FVec F S512x128 .f32 := k0_pay62 v184 v188 v192 v216 v236 v244 v252 v306 v307 v308 cst_92
  let v352 : FVec F S512x128 .bf16 := k0_pay63 v184 v188 v192 v216 v236 v244 v252 v306 v307 v308 cst_92
  let v354 : IVec S512x128 1 := k0_pay64 v184 v216
  let v355 : FVec F S512x128 .f32 := k0_pay65 v184 v188 v192 v216 v236 v244 v252 v306 v307 v308 cst_92
  let v396 : FVec F S512x128 .f32 := k0_pay79 v184 v192 v196 v220 v236 v252 v260 v351 v352 v354 v355
  let v397 : FVec F S512x128 .bf16 := k0_pay80 v184 v192 v196 v220 v236 v252 v260 v351 v352 v354 v355
  let v399 : IVec S512x128 1 := k0_pay81 v188 v220
  let v402 : FVec F S512x128 .f32 := k0_pay82 v184 v188 v192 v196 v220 v236 v252 v260 v351 v352 v354 v355
  let v441 : FVec F S512x128 .f32 := k0_pay95 v184 v200 v220 v224 v236 v244 v268 v396 v397 v399 v402
  let v442 : FVec F S512x128 .bf16 := k0_pay96 v184 v200 v220 v224 v236 v244 v268 v396 v397 v399 v402
  let v444 : IVec S512x128 1 := k0_pay97 v196 v224
  let v447 : FVec F S512x128 .f32 := k0_pay98 v184 v196 v200 v220 v224 v236 v244 v268 v396 v397 v399 v402
  let v449 : FVec F S512x128 .bf16 := k0_pay99 v184 v200 v220 v224 v236 v244 v260 v268 v396 v397 v399 v402
  let v486 : FVec F S512x128 .f32 := k0_pay111 v188 v192 v224 v244 v252 v441 v442 v444 v447 v449
  let v487 : FVec F S512x128 .bf16 := k0_pay112 v188 v192 v224 v244 v252 v441 v442 v444 v447 v449
  let v489 : IVec S512x128 1 := k0_pay113 v184 v224
  let v492 : FVec F S512x128 .f32 := k0_pay114 v184 v188 v192 v224 v244 v252 v441 v442 v444 v447 v449
  let v494 : FVec F S512x128 .bf16 := k0_pay115 v188 v192 v224 v236 v244 v252 v441 v442 v444 v447 v449
  let v495 : IVec S512x128 1 := k0_pay116 v184 v188 v192 v224 v244 v252 v441 v442 v444 v447 v449
  let v496 : IVec S512x128 1 := k0_pay117 v184 v188 v192 v224 v244 v252 v441 v442 v444 v447 v449
  let v497 : IVec S512x128 1 := k0_pay118 v188 v192 v224 v236 v244 v252 v441 v442 v444 v447 v449
  let v531 : FVec F S512x128 .f32 := k0_pay130 v200 v204 v228 v268 v276 v486 v487 v489 v492 v494 v495 v496 v497
  let v532 : FVec F S512x128 .bf16 := k0_pay131 v200 v204 v228 v268 v276 v486 v487 v489 v492 v494 v495 v496 v497
  let v537 : FVec F S512x128 .f32 := k0_pay132 v196 v200 v204 v228 v268 v276 v486 v487 v489 v492 v494 v495 v496 v497
  let v539 : FVec F S512x128 .bf16 := k0_pay133 v200 v204 v228 v260 v268 v276 v486 v487 v489 v492 v494 v495 v496 v497
  let v545 : IVec S512x128 1 := k0_pay134 v196 v200 v204 v228 v260 v268 v276 v486 v487 v489 v492 v494 v495 v496 v497
  let v591 : FVec F S512x128 .f32 := k0_pay150 v184 v188 v192 v228 v236 v244 v252 v531 v532 v537 v539 v545
  let v592 : FVec F S512x128 .bf16 := k0_pay151 v184 v188 v192 v228 v236 v244 v252 v531 v532 v537 v539 v545
  let c64_i32_164 : BitVec 32 := 64#32
  let v639 : FVec F S512x128 .f32 := k0_pay170 v196 v200 v204 v260 v268 v276 v591 v592 c64_i32_164
  let v640 : FVec F S512x128 .bf16 := k0_pay171 v196 v200 v204 v260 v268 v276 v591 v592 c64_i32_164
  let v641 : FVec F S512x128 .f32 := k0_pay172 v196 v200 v204 v260 v268 v276 v591 v592 c64_i32_164
  k0_pay173 v184 v188 v192 v236 v244 v252 v639 v640 v641

/-- What call 1 stores its block positions from, likewise, over all 256 blocks: the positions and which of them count. -/
def tail1 (arg1 : BitVec 32) (v38 : FVec F S512x1024 .f32) (v40 : FVec F S512x16 .f32) (v41 : Vec F S256x64 .f32) (v66 : FVec F S512x256 .f32) (v70 : FVec F S512x256 .f32) (v72 : FVec F S512x256 .f32) : FVec F S512x128 .bf16 × IVec S512x64 1 :=
  let v114 : FVec F S512x256 .f32 := k1_pay12 v38 v40 v41 v66 v70 v72
  let v118 : FVec F S512x256 .f32 := k1_pay13 v38 v41
  let v120 : FVec F S512x256 .f32 := k1_pay14 v40
  let v162 : FVec F S512x256 .f32 := k1_pay15 v38 v40 v41 v114 v118 v120
  let v166 : FVec F S512x256 .f32 := k1_pay16 v38 v41
  let v168 : FVec F S512x256 .f32 := k1_pay17 v40
  let v184 : IVec S512x256 32 := iota .tc S512x256 32 [1] iota_S512x256_d1_w32
  let v183 : FVec F S512x256 .f32 := k1_pay18 arg1 v162 v166 v168
  let v188 : IVec S512x256 1 := k1_pay19
  let v192 : IVec S512x256 1 := k1_pay20
  let v196 : IVec S512x256 1 := k1_pay21
  let v200 : IVec S512x256 1 := k1_pay22
  let v204 : IVec S512x256 1 := k1_pay23
  let v208 : IVec S512x256 1 := k1_pay24
  let v210 : IVec S512x256 32 := k1_pay25
  let v212 : IVec S512x256 1 := k1_pay26 v210
  let v216 : IVec S512x256 1 := k1_pay27 v184
  let v220 : IVec S512x256 1 := k1_pay28 v184
  let v224 : IVec S512x256 1 := k1_pay29 v184
  let v228 : IVec S512x256 1 := k1_pay30 v184
  let v232 : IVec S512x256 1 := k1_pay31 v184
  let v236 : IVec S512x256 1 := k1_pay32 v184
  let v244 : FVec F S256x256 .bf16 := k1_pay33 (F := F)
  let v252 : FVec F S256x256 .bf16 := k1_pay34 (F := F)
  let v255 : IVec S256x256 32 := k1_pay35
  let v260 : FVec F S256x256 .bf16 := k1_pay36 (F := F) v255
  let v268 : FVec F S256x256 .bf16 := k1_pay37 (F := F)
  let v276 : FVec F S256x256 .bf16 := k1_pay38 (F := F)
  let v284 : FVec F S256x256 .bf16 := k1_pay39 (F := F)
  let v286 : IVec S512x128 1 := k1_pay40 v188
  let v287 : IVec S512x128 1 := k1_pay41 v192
  let v288 : IVec S512x128 1 := k1_pay42 v196
  let v289 : IVec S512x128 1 := k1_pay43 v200
  let v290 : IVec S512x128 1 := k1_pay44 v204
  let v291 : IVec S512x128 1 := k1_pay45 v208
  let v292 : IVec S512x128 1 := k1_pay46 v212
  let v296 : IVec S512x128 1 := k1_pay47 v184
  let v304 : FVec F S128x128 .bf16 := k1_pay48 (F := F)
  let v307 : IVec S128x128 32 := k1_pay49
  let c2_i32_93 : BitVec 32 := 2#32
  let cst_101 : FVec F S512x256 .f32 := constant S512x256 .f32 0x00000000#32
  let v312 : FVec F S128x128 .bf16 := k1_pay50 (F := F) v307 c2_i32_93
  let v320 : FVec F S128x128 .bf16 := k1_pay51 (F := F)
  let v328 : FVec F S128x128 .bf16 := k1_pay52 (F := F)
  let v336 : FVec F S128x128 .bf16 := k1_pay53 (F := F)
  let v344 : FVec F S128x128 .bf16 := k1_pay54 (F := F)
  let v352 : FVec F S128x128 .bf16 := k1_pay55 (F := F)
  let v353 : FVec F S512x256 .bf16 := k1_pay56 (F := F) v184
  let v355 : IVec S512x256 1 := k1_pay57 v188 v216
  let v358 : FVec F S512x256 .f32 := k1_pay58 v183 v188
  let v397 : FVec F S512x256 .f32 := k1_pay71 v183 v188 v192 v220 v244 v252 v353 v355 v358 cst_101
  let v398 : FVec F S512x256 .bf16 := k1_pay72 v183 v188 v192 v220 v244 v252 v353 v355 v358 cst_101
  let v400 : IVec S512x256 1 := k1_pay73 v196 v224
  let v403 : FVec F S512x256 .f32 := k1_pay74 v183 v188 v192 v196 v220 v244 v252 v353 v355 v358 cst_101
  let v405 : FVec F S512x256 .bf16 := k1_pay75 v183 v188 v192 v220 v244 v252 v260 v353 v355 v358 cst_101
  let v406 : IVec S512x256 1 := k1_pay76 v183 v188 v192 v196 v220 v244 v252 v353 v355 v358 cst_101
  let v442 : FVec F S512x256 .f32 := k1_pay88 v188 v192 v224 v244 v252 v397 v398 v400 v403 v405 v406
  let v443 : FVec F S512x256 .bf16 := k1_pay89 v188 v192 v224 v244 v252 v397 v398 v400 v403 v405 v406
  let v445 : IVec S512x256 1 := k1_pay90 v200 v228
  let v448 : FVec F S512x256 .f32 := k1_pay91 v188 v192 v200 v224 v244 v252 v397 v398 v400 v403 v405 v406
  let v450 : FVec F S512x256 .bf16 := k1_pay92 v188 v192 v224 v244 v252 v268 v397 v398 v400 v403 v405 v406
  let v451 : IVec S512x256 1 := k1_pay93 v188 v192 v200 v224 v244 v252 v397 v398 v400 v403 v405 v406
  let v454 : IVec S512x256 1 := k1_pay94 v188 v192 v200 v224 v244 v252 v268 v397 v398 v400 v403 v405 v406
  let v488 : FVec F S512x256 .bf16 := k1_pay107 v192 v196 v228 v252 v260 v442 v443 v445 v448 v450 v451 v454
  let v495 : FVec F S512x256 .bf16 := k1_pay109 v192 v196 v228 v244 v252 v260 v442 v443 v445 v448 v450 v451 v454
  let v501 : IVec S512x256 1 := k1_pay110 v188 v192 v196 v228 v244 v252 v260 v442 v443 v445 v448 v450 v451 v454
  let v502 : FVec F S512x256 .f32 := k1_pay111 v188 v192 v196 v228 v244 v252 v260 v442 v443 v445 v448 v450 v451 v454
  let cst_146 : IVec S512x256 1 := constantI S512x256 1 1#1
  let v547 : FVec F S512x256 .f32 := k1_pay126 v196 v200 v204 v232 v260 v268 v276 v488 v495 v501 v502
  let v548 : FVec F S512x256 .bf16 := k1_pay127 v196 v200 v204 v232 v260 v268 v276 v488 v495 v501 v502
  let v549 : IVec S512x256 1 := k1_pay128 v192 v232
  let v592 : FVec F S512x256 .f32 := k1_pay142 v188 v192 v208 v232 v236 v244 v252 v284 v547 v548 v549 cst_146
  let v593 : FVec F S512x256 .bf16 := k1_pay143 v188 v192 v208 v232 v236 v244 v252 v284 v547 v548 v549 cst_146
  let v595 : IVec S512x256 1 := k1_pay144 v204 v236
  let v596 : FVec F S512x256 .f32 := k1_pay145 v188 v192 v208 v232 v236 v244 v252 v284 v547 v548 v549 cst_146
  let v637 : FVec F S512x256 .f32 := k1_pay159 v196 v200 v204 v236 v260 v268 v276 v592 v593 v595 v596
  let v638 : FVec F S512x256 .bf16 := k1_pay160 v196 v200 v204 v236 v260 v268 v276 v592 v593 v595 v596
  let v640 : IVec S512x256 1 := k1_pay161 v192 v236
  let v643 : FVec F S512x256 .f32 := k1_pay162 v192 v196 v200 v204 v236 v260 v268 v276 v592 v593 v595 v596
  let v683 : FVec F S512x128 .f32 := k1_pay176 v184 v188 v236 v244 v252 v637 v638 v640 v643
  let v685 : FVec F S512x128 .bf16 := k1_pay177 v184 v188 v236 v244 v252 v637 v638 v640 v643
  let v687 : IVec S512x128 1 := k1_pay178 v291 v296
  let v690 : FVec F S512x128 .f32 := k1_pay179 v184 v188 v236 v244 v252 v291 v637 v638 v640 v643
  let v729 : FVec F S512x128 .f32 := k1_pay192 v289 v290 v296 v328 v336 v344 v683 v685 v687 v690
  let v730 : FVec F S512x128 .bf16 := k1_pay193 v289 v290 v296 v328 v336 v344 v683 v685 v687 v690
  let v732 : IVec S512x128 1 := k1_pay194 v288 v296
  let v735 : FVec F S512x128 .f32 := k1_pay195 v288 v289 v290 v296 v328 v336 v344 v683 v685 v687 v690
  let v737 : FVec F S512x128 .bf16 := k1_pay196 v289 v290 v296 v320 v328 v336 v344 v683 v685 v687 v690
  let v774 : FVec F S512x128 .f32 := k1_pay208 v286 v287 v296 v304 v312 v729 v730 v732 v735 v737
  let v775 : FVec F S512x128 .bf16 := k1_pay209 v286 v287 v296 v304 v312 v729 v730 v732 v735 v737
  let v778 : FVec F S512x128 .f32 := k1_pay210 v286 v287 v292 v296 v304 v312 v729 v730 v732 v735 v737
  let v780 : FVec F S512x128 .bf16 := k1_pay211 v286 v287 v296 v304 v312 v352 v729 v730 v732 v735 v737
  let v786 : IVec S512x128 1 := k1_pay212 v286 v287 v292 v296 v304 v312 v352 v729 v730 v732 v735 v737
  let v826 : FVec F S512x128 .f32 := k1_pay228 v289 v290 v291 v328 v336 v344 v774 v775 v778 v780 v786
  let v827 : FVec F S512x128 .bf16 := k1_pay229 v289 v290 v291 v328 v336 v344 v774 v775 v778 v780 v786
  let v830 : FVec F S512x128 .f32 := k1_pay230 v288 v289 v290 v291 v328 v336 v344 v774 v775 v778 v780 v786
  let v832 : FVec F S512x128 .bf16 := k1_pay231 v289 v290 v291 v320 v328 v336 v344 v774 v775 v778 v780 v786
  let v833 : IVec S512x128 1 := k1_pay232 v288 v289 v290 v291 v328 v336 v344 v774 v775 v778 v780 v786
  let v834 : IVec S512x128 1 := k1_pay233 v288 v289 v290 v291 v328 v336 v344 v774 v775 v778 v780 v786
  (k1_pay245 v286 v287 v288 v304 v312 v826 v827 v830 v832 v833 v834, k1_pay246 v286 v287 v288 v304 v312 v826 v827 v830 v832 v833 v834)

/-- Call 0's block of positions, from the blocks it reads and the scratch rows. -/
def idx0 (i : grid0.Coords) (x0 : Vec F S1x512x2048 .f32) (x4 : Vec F S64x2048 .f32) (x5 : Vec F S1024x64 .f32) (x6 : Vec F S16x2048 .f32) (s : Vec F S128x64 .f32) : IVec S1x512x64 32 :=
  k0_pay1 (tail0 (BitVec.ofNat 32 (i 1).val) (k0_pay7 (k0_pay6 x0 x4) x5) (k0_pay8 (k0_pay2 x0) x6) s
    (k0_pay9 (k0_pay2 x0) (k0_pay6 x0 x4) x5 x6 s) (k0_pay10 (k0_pay6 x0 x4) x5 s))

/-- Call 1's. -/
def idx1 (i : grid1.Coords) (x0 : Vec F S1x512x2048 .f32) (x4 : Vec F S64x2048 .f32) (x5 : Vec F S1024x64 .f32) (x6 : Vec F S16x2048 .f32) (s : Vec F S256x64 .f32) : IVec S1x512x64 32 :=
  k1_pay1
    (tail1 (BitVec.ofNat 32 (i 1).val) (k1_pay7 (k1_pay2 x0) x4 x5) (k1_pay8 (k1_pay2 x0) x6) s
      (k1_pay9 (k1_pay2 x0) x4 x5 x6 s) (k1_pay10 (k1_pay2 x0) x4 x5 s) (k1_pay11 (k1_pay2 x0) x6)).1
    (tail1 (BitVec.ofNat 32 (i 1).val) (k1_pay7 (k1_pay2 x0) x4 x5) (k1_pay8 (k1_pay2 x0) x6) s
      (k1_pay9 (k1_pay2 x0) x4 x5 x6 s) (k1_pay10 (k1_pay2 x0) x4 x5 s) (k1_pay11 (k1_pay2 x0) x6)).2

/-- Call 0's body with everything after its loads and stores gathered into `tail0`. -/
def core0 (i : grid0.Coords) (arg2 : Memref sig .tc .vmem S1x512x2048 .f32) (harg2 : arg2.IsWhole) (arg3 : Memref sig .tc .vmem S64x2048 .f32) (harg3 : arg3.IsWhole) (arg4 : Memref sig .tc .vmem S64x2048 .f32) (harg4 : arg4.IsWhole) (arg5 : Memref sig .tc .vmem S16x64 .f32) (harg5 : arg5.IsWhole) (arg6 : Memref sig .tc .vmem S64x2048 .f32) (harg6 : arg6.IsWhole) (arg7 : Memref sig .tc .vmem S1024x64 .f32) (harg7 : arg7.IsWhole) (arg8 : Memref sig .tc .vmem S16x2048 .f32) (harg8 : arg8.IsWhole) (arg9 : Memref sig .tc .vmem S1x32x64 .f32) (harg9 : arg9.IsWhole) (arg10 : Memref sig .tc .vmem S1x512x64 .i32) (harg10 : arg10.IsWhole) (arg11 : Memref sig .tc .vmem S128x64 .f32) (harg11 : arg11.IsWhole) : Prog (TpuEff nD τ sig (Elt F) Λ₀ .tc) PUnit := do
  let ⟨arg1, v1, v32⟩ ← k0_part1_skel i arg2 harg2 arg3 harg3 arg4 harg4 arg5 harg5 arg6 harg6 arg7 harg7 arg8 harg8 arg9 harg9 arg10 harg10 arg11 harg11
  let ⟨v34, v36, v37, v70, v74⟩ ← k0_part2_skel i arg2 harg2 arg3 harg3 arg4 harg4 arg5 harg5 arg6 harg6 arg7 harg7 arg8 harg8 arg9 harg9 arg10 harg10 arg11 harg11 v1 v32
  let v687 : Vec F S1x512x64 .i32 ← Prog.lift (.load arg10 (Rect.unit (s := S1x512x64) ![0, 0, 0] S1x512x64.size inb_S1x512x64_S1x512x64_0_0_0).toLoadRect (View.loadsAt_vmem h_S1x512x64))
  Prog.lift (.store arg10 (Rect.unit (s := S1x512x64) ![0, 0, 0] S1x512x64.size inb_S1x512x64_S1x512x64_0_0_0) (k0_pay1 (tail0 arg1 v34 v36 v37 v70 v74)) Finset.univ (View.stores_vmem_bits_univ h_S1x512x64 rfl) (.inl rfl))
  pure ⟨⟩

/-- Call 1's body with everything after its loads and stores gathered into `tail1`. -/
def core1 (i : grid1.Coords) (arg2 : Memref sig .tc .vmem S1x512x2048 .f32) (harg2 : arg2.IsWhole) (arg3 : Memref sig .tc .vmem S64x2048 .f32) (harg3 : arg3.IsWhole) (arg4 : Memref sig .tc .vmem S64x2048 .f32) (harg4 : arg4.IsWhole) (arg5 : Memref sig .tc .vmem S16x64 .f32) (harg5 : arg5.IsWhole) (arg6 : Memref sig .tc .vmem S64x2048 .f32) (harg6 : arg6.IsWhole) (arg7 : Memref sig .tc .vmem S1024x64 .f32) (harg7 : arg7.IsWhole) (arg8 : Memref sig .tc .vmem S16x2048 .f32) (harg8 : arg8.IsWhole) (arg9 : Memref sig .tc .vmem S1x128x64 .f32) (harg9 : arg9.IsWhole) (arg10 : Memref sig .tc .vmem S1x32x64 .f32) (harg10 : arg10.IsWhole) (arg11 : Memref sig .tc .vmem S1x512x64 .i32) (harg11 : arg11.IsWhole) (arg12 : Memref sig .tc .vmem S256x64 .f32) (harg12 : arg12.IsWhole) : Prog (TpuEff nD τ sig (Elt F) Λ₀ .tc) PUnit := do
  let ⟨v866, v869⟩ : Σ' (v866 : FVec F S512x128 .bf16), IVec S512x64 1 ← (do
    let ⟨arg1, v1, v22⟩ ← k1_part1_skel i arg2 harg2 arg3 harg3 arg4 harg4 arg5 harg5 arg6 harg6 arg7 harg7 arg8 harg8 arg9 harg9 arg10 harg10 arg11 harg11 arg12 harg12
    let ⟨v38, v40, v41, v66, v70, v72⟩ ← k1_part2_skel i arg2 harg2 arg3 harg3 arg4 harg4 arg5 harg5 arg6 harg6 arg7 harg7 arg8 harg8 arg9 harg9 arg10 harg10 arg11 harg11 arg12 harg12 v1 v22
    pure ⟨(tail1 arg1 v38 v40 v41 v66 v70 v72).1, (tail1 arg1 v38 v40 v41 v66 v70 v72).2⟩)
  let v874 : Vec F S1x512x64 .i32 ← Prog.lift (.load arg11 (Rect.unit (s := S1x512x64) ![0, 0, 0] S1x512x64.size inb_S1x512x64_S1x512x64_0_0_0).toLoadRect (View.loadsAt_vmem h_S1x512x64))
  Prog.lift (.store arg11 (Rect.unit (s := S1x512x64) ![0, 0, 0] S1x512x64.size inb_S1x512x64_S1x512x64_0_0_0) (k1_pay1 v866 v869) Finset.univ (View.stores_vmem_bits_univ h_S1x512x64 rfl) (.inl rfl))
  pure ⟨⟩

/-- Call 0's printed body is `core0`. -/
theorem cc0_eq_core : cc0__body (F := F) = core0 (F := F) := rfl

/-- Call 1's printed body is `core1`. -/
theorem cc1_eq_core : cc1__body (F := F) = core1 (F := F) := rfl

end Cert.KernelIdeal.Run

end
-- ==== Proof.KiUpd.lean ====
module

public import proofs.«01_k».proof.Proof.Gen.KernelIdeal.Launch
public import proofs.«01_k».proof.Proof.Gen.KernelIdeal.Skeleton
public import proofs.«01_k».proof.Proof.Gen.KernelIdeal.Points
public import proofs.«01_k».proof.Proof.Gen.KernelIdeal.Regions
public import Idealize.ShloMosaic.Lib.Pipeline.FrameBody
public import Idealize.ShloMosaic.Lib.Ring
public import Idealize.ShloMosaic.Lib.Tactic
public import Idealize.ShloMosaic.Lib.WordCmp
public import proofs.«01_k».proof.Proof.KiNet
public import Idealize.ShloMosaic.Lib.VecWindow

@[expose] public section

set_option maxRecDepth 65536

noncomputable section

namespace Cert.KernelIdeal.Run

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

/-- Rows `o … o + 31` of `s` replaced by `y`. -/
def updRows {n : ℕ} (o : ℕ) (s : Vec F ⟨2, ![n, 64]⟩ .f32) (y : FVec F S32x64 .f32) : Vec F ⟨2, ![n, 64]⟩ .f32 := fun j =>
  if h : o ≤ (j 0).val ∧ (j 0).val < o + 32 then y (Rect.unitLocal (s := ⟨2, ![n, 64]⟩) (off := ![o, 0]) (size := S32x64.size) j (Rect.unit_rows_mem j rfl rfl h))
  else s j

/-- The first 128 rows of `s` replaced by `y`. -/
def updTop {n : ℕ} (s : Vec F ⟨2, ![n, 64]⟩ .f32) (y : FVec F S128x64 .f32) : Vec F ⟨2, ![n, 64]⟩ .f32 := fun j =>
  if h : 0 ≤ (j 0).val ∧ (j 0).val < 0 + 128 then y (Rect.unitLocal (s := ⟨2, ![n, 64]⟩) (off := ![0, 0]) (size := S128x64.size) j (Rect.unit_rows_mem j rfl rfl h))
  else s j

theorem off0_eq (i : grid0.Coords) : k0_off1 i = ![32 * (i 1).val, 0] := by
  have h : (i 1).val < 4 := (i 1).isLt
  unfold k0_off1
  generalize (i 1).val = v at h
  match v, h with
  | 0, _ => rfl
  | 1, _ => rfl
  | 2, _ => rfl
  | 3, _ => rfl

theorem off1_eq (i : grid1.Coords) : k1_off1 i = ![128 + 32 * (i 1).val, 0] := by
  have h : (i 1).val < 4 := (i 1).isLt
  unfold k1_off1
  generalize (i 1).val = v at h
  match v, h with
  | 0, _ => rfl
  | 1, _ => rfl
  | 2, _ => rfl
  | 3, _ => rfl

/-- The scratch rows call 0 leaves and scores against. -/
def scr0 (i : grid0.Coords) (x0 : Vec F S1x512x2048 .f32) (x1 x2 : Vec F S64x2048 .f32) (x3 : Vec F S16x64 .f32) (s : Vec F S128x64 .f32) : Vec F S128x64 .f32 :=
  updRows (n := 128) (32 * (i 1).val) s (k0_pay5 x0 x1 x2 x3)

/-- The scratch rows call 1 leaves and scores against: at the first tile of a batch the first call's rows are copied in. -/
def scr1 (i : grid1.Coords) (x0 : Vec F S1x512x2048 .f32) (x1 x2 : Vec F S64x2048 .f32) (x3 : Vec F S16x64 .f32) (x7 : Vec F S1x128x64 .f32) (s : Vec F S256x64 .f32) : Vec F S256x64 .f32 :=
  updRows (n := 256) (128 + 32 * (i 1).val) (if (i 1).val = 0 then updTop (n := 256) s (k1_pay5 x7) else s) (k1_pay6 (k1_pay3 x0 x1 x2 x3))

end Cert.KernelIdeal.Run

end
-- ==== Proof.KiDats.lean ====
module

public import proofs.«01_k».proof.Proof.Gen.KernelIdeal.Launch
public import proofs.«01_k».proof.Proof.Gen.KernelIdeal.Skeleton
public import proofs.«01_k».proof.Proof.Gen.KernelIdeal.Points
public import proofs.«01_k».proof.Proof.Gen.KernelIdeal.Regions
public import Idealize.ShloMosaic.Lib.Pipeline.FrameBody
public import Idealize.ShloMosaic.Lib.Ring
public import Idealize.ShloMosaic.Lib.Tactic
public import Idealize.ShloMosaic.Lib.WordCmp
public import proofs.«01_k».proof.Proof.KiUpd
public import Idealize.ShloMosaic.Lib.Pipeline.DatRel
public import Idealize.ShloMosaic.Lib.Pipeline.ArrRel
public import Idealize.ShloMosaic.Lib.Pipeline.RegionsLoop
public import Idealize.ShloMosaic.Lib.Pipeline.RegionsOwned

@[expose] public section

set_option maxRecDepth 65536

noncomputable section

namespace Cert.KernelIdeal.Run

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

open Idealize.ShloMosaic.Rounds
open Idealize.ShloMosaic.Pipeline (Dat Cfg Window BodyObligation cellOf)
local notation "𝕄" => MT nD τ sig Unit (Elt F) ℕ (UR sig nD τ) ℕ

variable (m : (ℓ : Loc nD τ sig) → Buf (Elt F) ℓ)

/-- What a window's array holds does not depend on the invariant the proof data carry. -/
theorem arrAt_congr {Λ : Labels} {cfg : Cfg sig Λ} {c : Dev nD} (d d' : Dat τ (Elt F) Unit ℕ (UR sig nD τ) ℕ cfg c) (w : Fin cfg.W) (hA : d.A w = d'.A w)
    (ha : ∀ t, d.after w t = d'.after w t) : ∀ n, d.arrAt w n = d'.arrAt w n
  | 0 => hA
  | n + 1 => by
    unfold Dat.arrAt Dat.flushed
    rw [arrAt_congr d d' w hA ha n]
    simp only [ha]

/-- Window `w`'s block at point `t` of region 0. -/
def iblk0 (c : Dev nD) (w : Fin cfg0.W) (t : Fin cfg0.N) : ((cfg0.win w).xblock (cfg0.grid.coords t)).Idx → Elt F (cfg0.win w).elt :=
  ((cfg0.win w).blk t).view.read (Elt F) (m ((c : Thread nD τ).loc (Pipeline.arrRef spec0 w)))

/-- Region 0's proof data but for the invariant: its inputs at their blocks, the compressed rows named, the positions not. -/
def base0 (Φ : Fin (cfg0.N + 1) → sProp 𝕄) (c : Dev nD) : Dat τ (Elt F) Unit ℕ (UR sig nD τ) ℕ cfg0 c where
  A w := m ((c : Thread nD τ).loc (Pipeline.arrRef spec0 w))
  after w t := match w with
    | ⟨0, _⟩ => iblk0 m c 0 t
    | ⟨1, _⟩ => iblk0 m c 1 t
    | ⟨2, _⟩ => iblk0 m c 2 t
    | ⟨3, _⟩ => iblk0 m c 3 t
    | ⟨4, _⟩ => iblk0 m c 4 t
    | ⟨5, _⟩ => iblk0 m c 5 t
    | ⟨6, _⟩ => iblk0 m c 6 t
    | ⟨7, _⟩ => k0_pay4 (iblk0 m c 0 t) (iblk0 m c 1 t) (iblk0 m c 2 t) (iblk0 m c 3 t)
    | ⟨8, h⟩ => Pipeline.Dat.unnamed (cfg := cfg0) ⟨8, h⟩ t
  Φ t := Φ t
  q _ := fullShare
  owed _ := 0

/-- The compressed rows as region 0 leaves them. -/
def kic0 (c : Dev nD) : Buf (Elt F) ((c : Thread nD τ).loc main_call0_v0_0) := (base0 m (fun _ => iprop(emp)) c).arrAt 7 cfg0.N

/-- The buffers after region 0. -/
abbrev W1 (c : Dev nD) (k : Buf (Elt F) ((c : Thread nD τ).loc main_call0_v0_0)) (o : Buf (Elt F) ((c : Thread nD τ).loc main_call0_v0_1)) : Valuation τ sig (Elt F) :=
  Function.update (Function.update (V0 m c) main_call0_v0_0 k) main_call0_v0_1 o

/-- The buffers after region 1. -/
abbrev W2 (c : Dev nD) (k : Buf (Elt F) ((c : Thread nD τ).loc main_call0_v0_0)) (o : Buf (Elt F) ((c : Thread nD τ).loc main_call0_v0_1))
    (k' : Buf (Elt F) ((c : Thread nD τ).loc main_call0_v1_0)) (o' : Buf (Elt F) ((c : Thread nD τ).loc main_call0_v1_1)) : Valuation τ sig (Elt F) :=
  Function.update (Function.update (W1 m c k o) main_call0_v1_0 k') main_call0_v1_1 o'

theorem W1_of (c : Dev nD) (k o) (r : Ref sig .tc) (h : r ∉ ([main_call0_v0_0, main_call0_v0_1] : List (Ref sig .tc))) : W1 m c k o r = V0 m c r := by
  simp only [W1, Function.update_of_ne (StableHlo.devRef_ne_of_ne (List.ne_of_not_mem_cons h) : (Proc.devRef .tc r : DevRef τ sig) ≠ Proc.devRef .tc main_call0_v0_0), Function.update_of_ne (StableHlo.devRef_ne_of_ne (List.ne_of_not_mem_cons (List.not_mem_of_not_mem_cons h)) : (Proc.devRef .tc r : DevRef τ sig) ≠ Proc.devRef .tc main_call0_v0_1)]
theorem W1_kic (c : Dev nD) (k o) : W1 m c k o main_call0_v0_0 = k := by
  simp only [W1, Function.update_of_ne (StableHlo.devRef_ne_of_ne (by decide) : (Proc.devRef .tc main_call0_v0_0 : DevRef τ sig) ≠ Proc.devRef .tc main_call0_v0_1), Function.update_self]
theorem W1_idx (c : Dev nD) (k o) : W1 m c k o main_call0_v0_1 = o := by
  simp only [W1, Function.update_self]
theorem W2_of (c : Dev nD) (k o k' o') (r : Ref sig .tc) (h : r ∉ ([main_call0_v1_0, main_call0_v1_1] : List (Ref sig .tc))) : W2 m c k o k' o' r = W1 m c k o r := by
  simp only [W2, Function.update_of_ne (StableHlo.devRef_ne_of_ne (List.ne_of_not_mem_cons h) : (Proc.devRef .tc r : DevRef τ sig) ≠ Proc.devRef .tc main_call0_v1_0), Function.update_of_ne (StableHlo.devRef_ne_of_ne (List.ne_of_not_mem_cons (List.not_mem_of_not_mem_cons h)) : (Proc.devRef .tc r : DevRef τ sig) ≠ Proc.devRef .tc main_call0_v1_1)]
theorem W2_kic (c : Dev nD) (k o k' o') : W2 m c k o k' o' main_call0_v1_0 = k' := by
  simp only [W2, Function.update_of_ne (StableHlo.devRef_ne_of_ne (by decide) : (Proc.devRef .tc main_call0_v1_0 : DevRef τ sig) ≠ Proc.devRef .tc main_call0_v1_1), Function.update_self]
theorem W2_idx (c : Dev nD) (k o k' o') : W2 m c k o k' o' main_call0_v1_1 = o' := by
  simp only [W2, Function.update_self]

/-- The buffers region 1 is entered from, as far as it reads them. -/
abbrev V1r (c : Dev nD) (r : Ref sig .tc) : Buf (Elt F) ((c : Thread nD τ).loc r) := W1 m c (kic0 m c) (m ((c : Thread nD τ).loc main_call0_v0_1)) r

/-- Window `w`'s block at point `t` of region 1. -/
def iblk1 (c : Dev nD) (w : Fin cfg1.W) (t : Fin cfg1.N) : ((cfg1.win w).xblock (cfg1.grid.coords t)).Idx → Elt F (cfg1.win w).elt :=
  ((cfg1.win w).blk t).view.read (Elt F) (V1r m c (Pipeline.arrRef spec1 w))

/-- Region 1's proof data but for the invariant. -/
def base1 (Φ : Fin (cfg1.N + 1) → sProp 𝕄) (c : Dev nD) : Dat τ (Elt F) Unit ℕ (UR sig nD τ) ℕ cfg1 c where
  A w := V1r m c (Pipeline.arrRef spec1 w)
  after w t := match w with
    | ⟨0, _⟩ => iblk1 m c 0 t
    | ⟨1, _⟩ => iblk1 m c 1 t
    | ⟨2, _⟩ => iblk1 m c 2 t
    | ⟨3, _⟩ => iblk1 m c 3 t
    | ⟨4, _⟩ => iblk1 m c 4 t
    | ⟨5, _⟩ => iblk1 m c 5 t
    | ⟨6, _⟩ => iblk1 m c 6 t
    | ⟨7, _⟩ => iblk1 m c 7 t
    | ⟨8, _⟩ => k1_pay4 (iblk1 m c 0 t) (iblk1 m c 1 t) (iblk1 m c 2 t) (iblk1 m c 3 t)
    | ⟨9, h⟩ => Pipeline.Dat.unnamed (cfg := cfg1) ⟨9, h⟩ t
  Φ t := Φ t
  q _ := fullShare
  owed _ := 0

/-- The compressed rows as region 1 leaves them. -/
def kic1 (c : Dev nD) : Buf (Elt F) ((c : Thread nD τ).loc main_call0_v1_0) := (base1 m (fun _ => iprop(emp)) c).arrAt 8 cfg1.N

/-- What is tracked of the two calls beyond the compressed rows: a property of the scratch rows before each point that
    every start meets and the body keeps, and a property of the block of positions it then leaves. -/
structure Track where
  I0 : Dev nD → ℕ → Vec F S128x64 .f32 → Prop
  Q0 : Dev nD → Fin cfg0.N → Vec F S1x512x64 .i32 → Prop
  I1 : Dev nD → ℕ → Vec F S256x64 .f32 → Prop
  Q1 : Dev nD → Fin cfg1.N → Vec F S1x512x64 .i32 → Prop
  start0 : ∀ c s, I0 c 0 s
  start1 : ∀ c s, I1 c 0 s
  step0 : ∀ c (t : Fin cfg0.N) s, I0 c t.val s → I0 c (t.val + 1) (scr0 (grid0.coords t) (iblk0 m c 0 t) (iblk0 m c 1 t) (iblk0 m c 2 t) (iblk0 m c 3 t) s) ∧ Q0 c t (idx0 (grid0.coords t) (iblk0 m c 0 t) (iblk0 m c 4 t) (iblk0 m c 5 t) (iblk0 m c 6 t) (scr0 (grid0.coords t) (iblk0 m c 0 t) (iblk0 m c 1 t) (iblk0 m c 2 t) (iblk0 m c 3 t) s))
  step1 : ∀ c (t : Fin cfg1.N) s, I1 c t.val s → I1 c (t.val + 1) (scr1 (grid1.coords t) (iblk1 m c 0 t) (iblk1 m c 1 t) (iblk1 m c 2 t) (iblk1 m c 3 t) (iblk1 m c 7 t) s) ∧ Q1 c t (idx1 (grid1.coords t) (iblk1 m c 0 t) (iblk1 m c 4 t) (iblk1 m c 5 t) (iblk1 m c 6 t) (scr1 (grid1.coords t) (iblk1 m c 0 t) (iblk1 m c 1 t) (iblk1 m c 2 t) (iblk1 m c 3 t) (iblk1 m c 7 t) s))

/-- Nothing tracked. -/
def Track.none : Track m where
  I0 _ _ _ := True
  Q0 _ _ _ := True
  I1 _ _ _ := True
  Q1 _ _ _ := True
  start0 _ _ := trivial
  start1 _ _ := trivial
  step0 _ _ _ _ := ⟨trivial, trivial⟩
  step1 _ _ _ _ := ⟨trivial, trivial⟩

/-- The scratch operands as memrefs. -/
abbrev scM0 : Memref sig .tc .vmem S128x64 .f32 := Memref.whole cc0_scratch0
abbrev scM1 : Memref sig .tc .vmem S256x64 .f32 := Memref.whole cc1_scratch0

/-- The scoped buffers region 0 does not touch. -/
def rest0 (c : Dev nD) : sProp 𝕄 := iprop((∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg3_0), ((c : Thread nD τ).loc cc1_stg3_0) ↦{fullShare} f) ∗ (∃ f : Buf (Elt F) ((c : Thread nD τ).loc cc1_stg4_0), ((c : Thread nD τ).loc cc1_stg4_0) ↦{fullShare} f) ∗ (∃ f : Buf (Elt F) ((c : Thread nD τ).loc cc1_stg5_0), ((c : Thread nD τ).loc cc1_stg5_0) ↦{fullShare} f) ∗ (∃ f : Buf (Elt F) ((c : Thread nD τ).loc cc1_stg6_0), ((c : Thread nD τ).loc cc1_stg6_0) ↦{fullShare} f) ∗ (∃ f : Buf (Elt F) ((c : Thread nD τ).loc cc1_stg7_0), ((c : Thread nD τ).loc cc1_stg7_0) ↦{fullShare} f) ∗ (∃ f : Buf (Elt F) ((c : Thread nD τ).loc cc1_stg7_1), ((c : Thread nD τ).loc cc1_stg7_1) ↦{fullShare} f) ∗ (∃ f : Buf (Elt F) ((c : Thread nD τ).loc cc1_stg8_0), ((c : Thread nD τ).loc cc1_stg8_0) ↦{fullShare} f) ∗ (∃ f : Buf (Elt F) ((c : Thread nD τ).loc cc1_stg8_1), ((c : Thread nD τ).loc cc1_stg8_1) ↦{fullShare} f) ∗ (∃ f : Buf (Elt F) ((c : Thread nD τ).loc cc1_stg9_0), ((c : Thread nD τ).loc cc1_stg9_0) ↦{fullShare} f) ∗ (∃ f : Buf (Elt F) ((c : Thread nD τ).loc cc1_stg9_1), ((c : Thread nD τ).loc cc1_stg9_1) ↦{fullShare} f) ∗ (∃ f : Buf (Elt F) ((c : Thread nD τ).loc cc1_scratch0), ((c : Thread nD τ).loc cc1_scratch0) ↦{fullShare} f))
/-- The scoped buffers region 1 does not touch. -/
def rest1 (c : Dev nD) : sProp 𝕄 := iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg4_0), ((c : Thread nD τ).loc cc0_stg4_0) ↦{fullShare} f) ∗ (∃ f : Buf (Elt F) ((c : Thread nD τ).loc cc0_stg5_0), ((c : Thread nD τ).loc cc0_stg5_0) ↦{fullShare} f) ∗ (∃ f : Buf (Elt F) ((c : Thread nD τ).loc cc0_stg6_0), ((c : Thread nD τ).loc cc0_stg6_0) ↦{fullShare} f) ∗ (∃ f : Buf (Elt F) ((c : Thread nD τ).loc cc0_stg7_0), ((c : Thread nD τ).loc cc0_stg7_0) ↦{fullShare} f) ∗ (∃ f : Buf (Elt F) ((c : Thread nD τ).loc cc0_stg7_1), ((c : Thread nD τ).loc cc0_stg7_1) ↦{fullShare} f) ∗ (∃ f : Buf (Elt F) ((c : Thread nD τ).loc cc0_stg8_0), ((c : Thread nD τ).loc cc0_stg8_0) ↦{fullShare} f) ∗ (∃ f : Buf (Elt F) ((c : Thread nD τ).loc cc0_stg8_1), ((c : Thread nD τ).loc cc0_stg8_1) ↦{fullShare} f) ∗ (∃ f : Buf (Elt F) ((c : Thread nD τ).loc cc0_scratch0), ((c : Thread nD τ).loc cc0_scratch0) ↦{fullShare} f))

variable (T : Track m)

def Phi0 (c : Dev nD) (t : Fin (cfg0.N + 1)) : sProp 𝕄 := iprop((∃ s, ⌜T.I0 c t.val s⌝ ∗ owns (c : Thread nD τ) scM0 fullShare s) ∗ rest0 c ∗ (∃ r, prngReg c r))
def Phi1 (c : Dev nD) (t : Fin (cfg1.N + 1)) : sProp 𝕄 := iprop((∃ s, ⌜T.I1 c t.val s⌝ ∗ owns (c : Thread nD τ) scM1 fullShare s) ∗ rest1 c ∗ (∃ r, prngReg c r))

/-- The regions' proof data. -/
abbrev dat0 (c : Dev nD) : Dat τ (Elt F) Unit ℕ (UR sig nD τ) ℕ cfg0 c := base0 m (Phi0 m T c) c
abbrev dat1 (c : Dev nD) : Dat τ (Elt F) Unit ℕ (UR sig nD τ) ℕ cfg1 c := base1 m (Phi1 m T c) c

def pdats : (p : Fin 2) → (c : Dev nD) → Dat τ (Elt F) Unit ℕ (UR sig nD τ) ℕ (cfgs p) c
  | 0 => dat0 m T
  | 1 => dat1 m T
  | ⟨_ + 2, h⟩ => absurd h (Nat.not_lt.2 (Nat.le_add_left _ _))

/-- The block of positions is held to what is tracked. -/
def fgt0 : Fin 9 → Bool := fun w => w.val == 8
def fgt1 : Fin 10 → Bool := fun w => w.val == 9
def Rl0 (c : Dev nD) : (w : Fin cfg0.W) → Fin cfg0.N → ((cfg0.win w).block.Idx → Elt F (cfg0.win w).elt) → Prop
  | ⟨8, _⟩, t, X => T.Q0 c t X
  | _, _, _ => True
def Rl1 (c : Dev nD) : (w : Fin cfg1.W) → Fin cfg1.N → ((cfg1.win w).block.Idx → Elt F (cfg1.win w).elt) → Prop
  | ⟨9, _⟩, t, X => T.Q1 c t X
  | _, _, _ => True

def rdats : (p : Fin 2) → (c : Dev nD) → Pipeline.RDat τ (Elt F) Unit ℕ (UR sig nD τ) ℕ (cfgs p) c
  | 0 => fun c => (dat0 m T c).toRRel fgt0 (Rl0 m T c)
  | 1 => fun c => (dat1 m T c).toRRel fgt1 (Rl1 m T c)
  | ⟨_ + 2, h⟩ => absurd h (Nat.not_lt.2 (Nat.le_add_left _ _))

theorem after0_0 (Φ) (c : Dev nD) (t : Fin cfg0.N) : (base0 m Φ c).after 0 t = iblk0 m c 0 t := by dsimp only [base0]
theorem before0_0 (Φ) (c : Dev nD) (t : Fin cfg0.N) (d) : (base0 m Φ c).before 0 t d = iblk0 m c 0 t :=
  ((base0 m Φ c).before_in_eq_fetched 0 rfl (fun _ => rfl) (fun _ _ _ => rfl) (fun t => by rw [after0_0]; unfold Dat.blockOf iblk0; rfl) t d).trans
    (by unfold Dat.fetched Dat.blockOf iblk0; rfl)
theorem after0_1 (Φ) (c : Dev nD) (t : Fin cfg0.N) : (base0 m Φ c).after 1 t = iblk0 m c 1 t := by dsimp only [base0]
theorem before0_1 (Φ) (c : Dev nD) (t : Fin cfg0.N) (d) : (base0 m Φ c).before 1 t d = iblk0 m c 1 t :=
  ((base0 m Φ c).before_in_eq_fetched 1 rfl (fun _ => rfl) (fun _ _ _ => rfl) (fun t => by rw [after0_1]; unfold Dat.blockOf iblk0; rfl) t d).trans
    (by unfold Dat.fetched Dat.blockOf iblk0; rfl)
theorem after0_2 (Φ) (c : Dev nD) (t : Fin cfg0.N) : (base0 m Φ c).after 2 t = iblk0 m c 2 t := by dsimp only [base0]
theorem before0_2 (Φ) (c : Dev nD) (t : Fin cfg0.N) (d) : (base0 m Φ c).before 2 t d = iblk0 m c 2 t :=
  ((base0 m Φ c).before_in_eq_fetched 2 rfl (fun _ => rfl) (fun _ _ _ => rfl) (fun t => by rw [after0_2]; unfold Dat.blockOf iblk0; rfl) t d).trans
    (by unfold Dat.fetched Dat.blockOf iblk0; rfl)
theorem after0_3 (Φ) (c : Dev nD) (t : Fin cfg0.N) : (base0 m Φ c).after 3 t = iblk0 m c 3 t := by dsimp only [base0]
theorem before0_3 (Φ) (c : Dev nD) (t : Fin cfg0.N) (d) : (base0 m Φ c).before 3 t d = iblk0 m c 3 t :=
  ((base0 m Φ c).before_in_eq_fetched 3 rfl (fun _ => rfl) (fun _ _ _ => rfl) (fun t => by rw [after0_3]; unfold Dat.blockOf iblk0; rfl) t d).trans
    (by unfold Dat.fetched Dat.blockOf iblk0; rfl)
theorem after0_4 (Φ) (c : Dev nD) (t : Fin cfg0.N) : (base0 m Φ c).after 4 t = iblk0 m c 4 t := by dsimp only [base0]
theorem before0_4 (Φ) (c : Dev nD) (t : Fin cfg0.N) (d) : (base0 m Φ c).before 4 t d = iblk0 m c 4 t :=
  ((base0 m Φ c).before_in_eq_fetched 4 rfl (fun _ => rfl) (fun _ _ _ => rfl) (fun t => by rw [after0_4]; unfold Dat.blockOf iblk0; rfl) t d).trans
    (by unfold Dat.fetched Dat.blockOf iblk0; rfl)
theorem after0_5 (Φ) (c : Dev nD) (t : Fin cfg0.N) : (base0 m Φ c).after 5 t = iblk0 m c 5 t := by dsimp only [base0]
theorem before0_5 (Φ) (c : Dev nD) (t : Fin cfg0.N) (d) : (base0 m Φ c).before 5 t d = iblk0 m c 5 t :=
  ((base0 m Φ c).before_in_eq_fetched 5 rfl (fun _ => rfl) (fun _ _ _ => rfl) (fun t => by rw [after0_5]; unfold Dat.blockOf iblk0; rfl) t d).trans
    (by unfold Dat.fetched Dat.blockOf iblk0; rfl)
theorem after0_6 (Φ) (c : Dev nD) (t : Fin cfg0.N) : (base0 m Φ c).after 6 t = iblk0 m c 6 t := by dsimp only [base0]
theorem before0_6 (Φ) (c : Dev nD) (t : Fin cfg0.N) (d) : (base0 m Φ c).before 6 t d = iblk0 m c 6 t :=
  ((base0 m Φ c).before_in_eq_fetched 6 rfl (fun _ => rfl) (fun _ _ _ => rfl) (fun t => by rw [after0_6]; unfold Dat.blockOf iblk0; rfl) t d).trans
    (by unfold Dat.fetched Dat.blockOf iblk0; rfl)
theorem after0_7 (Φ) (c : Dev nD) (t : Fin cfg0.N) : (base0 m Φ c).after 7 t = k0_pay4 (iblk0 m c 0 t) (iblk0 m c 1 t) (iblk0 m c 2 t) (iblk0 m c 3 t) := by dsimp only [base0]
theorem after1_0 (Φ) (c : Dev nD) (t : Fin cfg1.N) : (base1 m Φ c).after 0 t = iblk1 m c 0 t := by dsimp only [base1]
theorem before1_0 (Φ) (c : Dev nD) (t : Fin cfg1.N) (d) : (base1 m Φ c).before 0 t d = iblk1 m c 0 t :=
  ((base1 m Φ c).before_in_eq_fetched 0 rfl (fun _ => rfl) (fun _ _ _ => rfl) (fun t => by rw [after1_0]; unfold Dat.blockOf iblk1; rfl) t d).trans
    (by unfold Dat.fetched Dat.blockOf iblk1; rfl)
theorem after1_1 (Φ) (c : Dev nD) (t : Fin cfg1.N) : (base1 m Φ c).after 1 t = iblk1 m c 1 t := by dsimp only [base1]
theorem before1_1 (Φ) (c : Dev nD) (t : Fin cfg1.N) (d) : (base1 m Φ c).before 1 t d = iblk1 m c 1 t :=
  ((base1 m Φ c).before_in_eq_fetched 1 rfl (fun _ => rfl) (fun _ _ _ => rfl) (fun t => by rw [after1_1]; unfold Dat.blockOf iblk1; rfl) t d).trans
    (by unfold Dat.fetched Dat.blockOf iblk1; rfl)
theorem after1_2 (Φ) (c : Dev nD) (t : Fin cfg1.N) : (base1 m Φ c).after 2 t = iblk1 m c 2 t := by dsimp only [base1]
theorem before1_2 (Φ) (c : Dev nD) (t : Fin cfg1.N) (d) : (base1 m Φ c).before 2 t d = iblk1 m c 2 t :=
  ((base1 m Φ c).before_in_eq_fetched 2 rfl (fun _ => rfl) (fun _ _ _ => rfl) (fun t => by rw [after1_2]; unfold Dat.blockOf iblk1; rfl) t d).trans
    (by unfold Dat.fetched Dat.blockOf iblk1; rfl)
theorem after1_3 (Φ) (c : Dev nD) (t : Fin cfg1.N) : (base1 m Φ c).after 3 t = iblk1 m c 3 t := by dsimp only [base1]
theorem before1_3 (Φ) (c : Dev nD) (t : Fin cfg1.N) (d) : (base1 m Φ c).before 3 t d = iblk1 m c 3 t :=
  ((base1 m Φ c).before_in_eq_fetched 3 rfl (fun _ => rfl) (fun _ _ _ => rfl) (fun t => by rw [after1_3]; unfold Dat.blockOf iblk1; rfl) t d).trans
    (by unfold Dat.fetched Dat.blockOf iblk1; rfl)
theorem after1_4 (Φ) (c : Dev nD) (t : Fin cfg1.N) : (base1 m Φ c).after 4 t = iblk1 m c 4 t := by dsimp only [base1]
theorem before1_4 (Φ) (c : Dev nD) (t : Fin cfg1.N) (d) : (base1 m Φ c).before 4 t d = iblk1 m c 4 t :=
  ((base1 m Φ c).before_in_eq_fetched 4 rfl (fun _ => rfl) (fun _ _ _ => rfl) (fun t => by rw [after1_4]; unfold Dat.blockOf iblk1; rfl) t d).trans
    (by unfold Dat.fetched Dat.blockOf iblk1; rfl)
theorem after1_5 (Φ) (c : Dev nD) (t : Fin cfg1.N) : (base1 m Φ c).after 5 t = iblk1 m c 5 t := by dsimp only [base1]
theorem before1_5 (Φ) (c : Dev nD) (t : Fin cfg1.N) (d) : (base1 m Φ c).before 5 t d = iblk1 m c 5 t :=
  ((base1 m Φ c).before_in_eq_fetched 5 rfl (fun _ => rfl) (fun _ _ _ => rfl) (fun t => by rw [after1_5]; unfold Dat.blockOf iblk1; rfl) t d).trans
    (by unfold Dat.fetched Dat.blockOf iblk1; rfl)
theorem after1_6 (Φ) (c : Dev nD) (t : Fin cfg1.N) : (base1 m Φ c).after 6 t = iblk1 m c 6 t := by dsimp only [base1]
theorem before1_6 (Φ) (c : Dev nD) (t : Fin cfg1.N) (d) : (base1 m Φ c).before 6 t d = iblk1 m c 6 t :=
  ((base1 m Φ c).before_in_eq_fetched 6 rfl (fun _ => rfl) (fun _ _ _ => rfl) (fun t => by rw [after1_6]; unfold Dat.blockOf iblk1; rfl) t d).trans
    (by unfold Dat.fetched Dat.blockOf iblk1; rfl)
theorem after1_7 (Φ) (c : Dev nD) (t : Fin cfg1.N) : (base1 m Φ c).after 7 t = iblk1 m c 7 t := by dsimp only [base1]
theorem before1_7 (Φ) (c : Dev nD) (t : Fin cfg1.N) (d) : (base1 m Φ c).before 7 t d = iblk1 m c 7 t :=
  ((base1 m Φ c).before_in_eq_fetched 7 rfl (fun _ => rfl) (fun _ _ _ => rfl) (fun t => by rw [after1_7]; unfold Dat.blockOf iblk1; rfl) t d).trans
    (by unfold Dat.fetched Dat.blockOf iblk1; rfl)
theorem after1_8 (Φ) (c : Dev nD) (t : Fin cfg1.N) : (base1 m Φ c).after 8 t = k1_pay4 (iblk1 m c 0 t) (iblk1 m c 1 t) (iblk1 m c 2 t) (iblk1 m c 3 t) := by dsimp only [base1]

theorem kic0_eq (Φ) (c : Dev nD) : (base0 m Φ c).arrAt 7 cfg0.N = kic0 m c := arrAt_congr _ _ 7 rfl (fun _ => rfl) _
theorem kic1_eq (Φ) (c : Dev nD) : (base1 m Φ c).arrAt 8 cfg1.N = kic1 m c := arrAt_congr _ _ 8 rfl (fun _ => rfl) _

end Cert.KernelIdeal.Run

end
-- ==== Proof.KiBody0.lean ====
module

public import proofs.«01_k».proof.Proof.Gen.KernelIdeal.Launch
public import proofs.«01_k».proof.Proof.Gen.KernelIdeal.Skeleton
public import proofs.«01_k».proof.Proof.Gen.KernelIdeal.Points
public import proofs.«01_k».proof.Proof.Gen.KernelIdeal.Regions
public import Idealize.ShloMosaic.Lib.Pipeline.FrameBody
public import Idealize.ShloMosaic.Lib.Ring
public import Idealize.ShloMosaic.Lib.Tactic
public import Idealize.ShloMosaic.Lib.WordCmp
public import proofs.«01_k».proof.Proof.KiUpd

@[expose] public section

set_option maxRecDepth 65536

noncomputable section

namespace Cert.KernelIdeal.Run

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

set_option maxHeartbeats 4000000 in
/-- Call 0's body: on the input blocks and the scratch rows `s` it leaves the compressed rows in their block and in the
    scratch, and the block positions. -/
theorem body0 (c : Dev nD) (i : grid0.Coords) (arg2 : Memref sig .tc .vmem S1x512x2048 .f32) (harg2 : arg2.IsWhole) (arg3 : Memref sig .tc .vmem S64x2048 .f32) (harg3 : arg3.IsWhole) (arg4 : Memref sig .tc .vmem S64x2048 .f32) (harg4 : arg4.IsWhole) (arg5 : Memref sig .tc .vmem S16x64 .f32) (harg5 : arg5.IsWhole) (arg6 : Memref sig .tc .vmem S64x2048 .f32) (harg6 : arg6.IsWhole) (arg7 : Memref sig .tc .vmem S1024x64 .f32) (harg7 : arg7.IsWhole) (arg8 : Memref sig .tc .vmem S16x2048 .f32) (harg8 : arg8.IsWhole) (arg9 : Memref sig .tc .vmem S1x32x64 .f32) (harg9 : arg9.IsWhole) (arg10 : Memref sig .tc .vmem S1x512x64 .i32) (harg10 : arg10.IsWhole) (arg11 : Memref sig .tc .vmem S128x64 .f32) (harg11 : arg11.IsWhole)
    (x0 : Vec F S1x512x2048 .f32) (x1 : Vec F S64x2048 .f32) (x2 : Vec F S64x2048 .f32) (x3 : Vec F S16x64 .f32) (x4 : Vec F S64x2048 .f32) (x5 : Vec F S1024x64 .f32) (x6 : Vec F S16x2048 .f32) (s : Vec F S128x64 .f32) :
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ (∃ d, owns (c : Thread nD τ) arg9 fullShare d) ∗ (∃ d, owns (c : Thread nD τ) arg10 fullShare d) ∗ owns (c : Thread nD τ) arg11 fullShare s
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare (k0_pay4 x0 x1 x2 x3) ∗ owns (c : Thread nD τ) arg10 fullShare (idx0 i x0 x4 x5 x6 (scr0 i x0 x1 x2 x3 s)) ∗ owns (c : Thread nD τ) arg11 fullShare (scr0 i x0 x1 x2 x3 s)) -∗ K ⟨⟩))
          ⊢ wp frame (wpE (defs₀ (F := F)) Variants.none c none) E (cc0__body i arg2 harg2 arg3 harg3 arg4 harg4 arg5 harg5 arg6 harg6 arg7 harg7 arg8 harg8 arg9 harg9 arg10 harg10 arg11 harg11) K := by
    intro E K
    rw [cc0_eq_core]; unfold core0 k0_part1_skel k0_part2_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%d8, %f8, -, H8⟩, ⟨%fs0, %hs0, HS0⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg11.eq_unread hs0
    sl_exec
    sl_step
    iapply Hk

    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; swap; · iexact H7
      ipureintro
      rw [View.read_writes_full arg9.view]
      rw [View.readAt_full arg2.view, View.readAt_full arg3.view, View.readAt_full arg4.view, View.readAt_full arg5.view, hf0, hf1, hf2, hf3]
    isplitl [H8]
    · iexists _; isplitr; swap; · iexact H8
      ipureintro
      have hw : ∀ y : S32x64.Idx → Elt F .f32, View.read (Elt F) arg11.view (arg11.view.writes (Elt F) (harg11.unread s) [⟨Rect.unit (k0_off1 i) S32x64.size (k0_off1_inb i), y⟩]) = updRows (n := 128) (32 * (i 1).val) s y := by
        intro y; funext j
        refine (View.read_writes_cons_rows arg11.view _ (k0_off1_inb i) (w := y) [] j (off0_eq i) rfl rfl).trans ?_
        unfold updRows; congr 1; funext _; exact congrFun hs0 j
      unfold body0.sl.v37 body0.sl.HS0_1
      rw [View.read_writes_full arg10.view]
      rw [View.readAt_full arg2.view, View.readAt_full arg3.view, View.readAt_full arg4.view, View.readAt_full arg5.view, View.readAt_full arg6.view, View.readAt_full arg7.view, View.readAt_full arg8.view, View.readAt_full arg11.view, hf0, hf1, hf2, hf3, hf4, hf5, hf6, hw]
      rfl
    iexists _; isplitr; swap; · iexact HS0
    ipureintro
    have hw : ∀ y : S32x64.Idx → Elt F .f32, View.read (Elt F) arg11.view (arg11.view.writes (Elt F) (harg11.unread s) [⟨Rect.unit (k0_off1 i) S32x64.size (k0_off1_inb i), y⟩]) = updRows (n := 128) (32 * (i 1).val) s y := by
      intro y; funext j
      refine (View.read_writes_cons_rows arg11.view _ (k0_off1_inb i) (w := y) [] j (off0_eq i) rfl rfl).trans ?_
      unfold updRows; congr 1; funext _; exact congrFun hs0 j
    unfold body0.sl.HS0_1
    rw [View.readAt_full arg2.view, View.readAt_full arg3.view, View.readAt_full arg4.view, View.readAt_full arg5.view, hf0, hf1, hf2, hf3, hw]
    rfl

end Cert.KernelIdeal.Run

end
-- ==== Proof.KiSound0.lean ====
module

public import proofs.«01_k».proof.Proof.Gen.KernelIdeal.Launch
public import proofs.«01_k».proof.Proof.Gen.KernelIdeal.Skeleton
public import proofs.«01_k».proof.Proof.Gen.KernelIdeal.Points
public import proofs.«01_k».proof.Proof.Gen.KernelIdeal.Regions
public import Idealize.ShloMosaic.Lib.Pipeline.FrameBody
public import Idealize.ShloMosaic.Lib.Ring
public import Idealize.ShloMosaic.Lib.Tactic
public import Idealize.ShloMosaic.Lib.WordCmp
public import proofs.«01_k».proof.Proof.KiDats
public import proofs.«01_k».proof.Proof.KiBody0
public import Idealize.ShloMosaic.Lib.Pipeline.DatRel
public import Idealize.ShloMosaic.Lib.Pipeline.ArrRel
public import Idealize.ShloMosaic.Lib.Pipeline.RegionsLoop
public import Idealize.ShloMosaic.Lib.Pipeline.RegionsOwned

@[expose] public section

set_option maxRecDepth 65536

noncomputable section

namespace Cert.KernelIdeal.Run

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

open Idealize.ShloMosaic.Rounds
open Idealize.ShloMosaic.Pipeline (Dat Cfg Window BodyObligation cellOf)
local notation "𝕄" => MT nD τ sig Unit (Elt F) ℕ (UR sig nD τ) ℕ

variable (m : (ℓ : Loc nD τ sig) → Buf (Elt F) ℓ) (T : Track m)

/-- What call 0's body is called with at point `t`, and what it returns. -/
def bPre0 (c : Dev nD) (t : Fin cfg0.N) : sProp 𝕄 := iprop((dat0 m T c).Φ t.castSucc ∗ (dat0 m T c).owesAt () t.castSucc ∗ (∃ d, owns (c : Thread nD τ) (st0_0 t) fullShare ((dat0 m T c).before 0 t d)) ∗ (∃ d, owns (c : Thread nD τ) (st0_1 t) fullShare ((dat0 m T c).before 1 t d)) ∗ (∃ d, owns (c : Thread nD τ) (st0_2 t) fullShare ((dat0 m T c).before 2 t d)) ∗ (∃ d, owns (c : Thread nD τ) (st0_3 t) fullShare ((dat0 m T c).before 3 t d)) ∗ (∃ d, owns (c : Thread nD τ) (st0_4 t) fullShare ((dat0 m T c).before 4 t d)) ∗ (∃ d, owns (c : Thread nD τ) (st0_5 t) fullShare ((dat0 m T c).before 5 t d)) ∗ (∃ d, owns (c : Thread nD τ) (st0_6 t) fullShare ((dat0 m T c).before 6 t d)) ∗ (∃ d, owns (c : Thread nD τ) (st0_7 t) fullShare ((dat0 m T c).before 7 t d)) ∗ (∃ Y, ⌜((dat0 m T c).toRRel fgt0 (Rl0 m T c)).Finds 8 t Y⌝ ∗ owns (c : Thread nD τ) (st0_8 t) fullShare Y))
def bPost0 (c : Dev nD) (t : Fin cfg0.N) : sProp 𝕄 := iprop((dat0 m T c).Φ t.succ ∗ (dat0 m T c).owesAt () t.succ ∗ owns (c : Thread nD τ) (st0_0 t) fullShare ((dat0 m T c).after 0 t) ∗ owns (c : Thread nD τ) (st0_1 t) fullShare ((dat0 m T c).after 1 t) ∗ owns (c : Thread nD τ) (st0_2 t) fullShare ((dat0 m T c).after 2 t) ∗ owns (c : Thread nD τ) (st0_3 t) fullShare ((dat0 m T c).after 3 t) ∗ owns (c : Thread nD τ) (st0_4 t) fullShare ((dat0 m T c).after 4 t) ∗ owns (c : Thread nD τ) (st0_5 t) fullShare ((dat0 m T c).after 5 t) ∗ owns (c : Thread nD τ) (st0_6 t) fullShare ((dat0 m T c).after 6 t) ∗ owns (c : Thread nD τ) (st0_7 t) fullShare ((dat0 m T c).after 7 t) ∗ (∃ X, ⌜Rl0 m T c 8 t X⌝ ∗ owns (c : Thread nD τ) (st0_8 t) fullShare X))

set_option maxHeartbeats 1600000 in
/-- Call 0's body at any point, over the proof data. -/
theorem sound0 (c : Dev nD) (t : Fin cfg0.N) :
    bPre0 m T c t ⊢ wp frame (wpE (defs₀ (F := F)) Variants.none c none) Set.univ (bodyAt0 t) (fun _ => bPost0 m T c t) := by
  unfold bPre0 bPost0 bodyAt0
  simp only [before0_0, before0_1, before0_2, before0_3, before0_4, before0_5, before0_6]
  rw [show (dat0 m T c).owesAt () t.succ = (dat0 m T c).owesAt () t.castSucc from rfl, after0_0, after0_1, after0_2, after0_3, after0_4, after0_5, after0_6, after0_7]
  rw [show (dat0 m T c).Φ t.castSucc = Phi0 m T c t.castSucc from rfl, show (dat0 m T c).Φ t.succ = Phi0 m T c t.succ from rfl]
  unfold Phi0
  iintro ⟨⟨⟨%s, %hs, HS⟩, Hr, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%dY, -, H8⟩⟩
  iapply ((body0 c (grid0.coords t) _ _ _ _ _ _ _ _ _ _ _ _ _ _ _ _ _ _ _ _ (iblk0 m c 0 t) (iblk0 m c 1 t) (iblk0 m c 2 t) (iblk0 m c 3 t) (iblk0 m c 4 t) (iblk0 m c 5 t) (iblk0 m c 6 t) s) Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  isplitl [H8]; · iexists _; iexact H8
  isplitl [HS]; · iexact HS
  iintro ⟨H0, H1, H2, H3, H4, H5, H6, H7, H8, HS⟩
  isplitl [HS Hr Hg]
  · isplitl [HS]
    · iexists _; isplitr; swap; · iexact HS
      ipureintro; exact (T.step0 c t s hs).1
    isplitl [Hr]; · iexact Hr
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  iexists _; isplitr; swap; · iexact H8
  ipureintro; exact (T.step0 c t s hs).2

/-- The body table's row at point `t`'s slots is the body. -/
theorem defs₀_row0 (t : Fin cfg0.N) : defs₀ (F := F) .tc cfg0.body (cfg0.bodyArgs t (cfg0.slots t)) = bodyAt0 t := by
  unfold defs₀; rw [Defs.onTc_tc]

/-- Call 0's body obligation. -/
theorem obligation0 (c : Dev nD) : Pipeline.BodyObligationRel (dat0 m T c) (defs₀ (F := F)) Variants.none () Set.univ fgt0 (Rl0 m T c) := fun t => by
  rw [bigSep_W0, bigSep_W0, defs₀_row0]
  exact triple_restated (sound0 m T c t) rfl .rfl fun _ => .rfl

end Cert.KernelIdeal.Run

end
-- ==== Proof.KiBody1A.lean ====
module

public import proofs.«01_k».proof.Proof.Gen.KernelIdeal.Launch
public import proofs.«01_k».proof.Proof.Gen.KernelIdeal.Skeleton
public import proofs.«01_k».proof.Proof.Gen.KernelIdeal.Points
public import proofs.«01_k».proof.Proof.Gen.KernelIdeal.Regions
public import Idealize.ShloMosaic.Lib.Pipeline.FrameBody
public import Idealize.ShloMosaic.Lib.Ring
public import Idealize.ShloMosaic.Lib.Tactic
public import Idealize.ShloMosaic.Lib.WordCmp
public import proofs.«01_k».proof.Proof.KiUpd

@[expose] public section

set_option maxRecDepth 65536

noncomputable section

namespace Cert.KernelIdeal.Run

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

theorem cond1_pos (i : grid1.Coords) (h : (i 1).val = 0) : Scalar.cmpi .ne (Scalar.extui (Scalar.cmpi .eq (BitVec.ofNat 32 (i 1).val) 0#32) : BitVec 32) 0#32 = 1#1 := by
  rw [h]; rfl

set_option maxHeartbeats 4000000 in
/-- Call 1's body at a batch's first tile. -/
theorem body1_A (c : Dev nD) (i : grid1.Coords) (hi : (i 1).val = 0) (arg2 : Memref sig .tc .vmem S1x512x2048 .f32) (harg2 : arg2.IsWhole) (arg3 : Memref sig .tc .vmem S64x2048 .f32) (harg3 : arg3.IsWhole) (arg4 : Memref sig .tc .vmem S64x2048 .f32) (harg4 : arg4.IsWhole) (arg5 : Memref sig .tc .vmem S16x64 .f32) (harg5 : arg5.IsWhole) (arg6 : Memref sig .tc .vmem S64x2048 .f32) (harg6 : arg6.IsWhole) (arg7 : Memref sig .tc .vmem S1024x64 .f32) (harg7 : arg7.IsWhole) (arg8 : Memref sig .tc .vmem S16x2048 .f32) (harg8 : arg8.IsWhole) (arg9 : Memref sig .tc .vmem S1x128x64 .f32) (harg9 : arg9.IsWhole) (arg10 : Memref sig .tc .vmem S1x32x64 .f32) (harg10 : arg10.IsWhole) (arg11 : Memref sig .tc .vmem S1x512x64 .i32) (harg11 : arg11.IsWhole) (arg12 : Memref sig .tc .vmem S256x64 .f32) (harg12 : arg12.IsWhole)
    (x0 : Vec F S1x512x2048 .f32) (x1 : Vec F S64x2048 .f32) (x2 : Vec F S64x2048 .f32) (x3 : Vec F S16x64 .f32) (x4 : Vec F S64x2048 .f32) (x5 : Vec F S1024x64 .f32) (x6 : Vec F S16x2048 .f32) (x7 : Vec F S1x128x64 .f32) (s : Vec F S256x64 .f32) :
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ (∃ d, owns (c : Thread nD τ) arg10 fullShare d) ∗ (∃ d, owns (c : Thread nD τ) arg11 fullShare d) ∗ owns (c : Thread nD τ) arg12 fullShare s
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare (k1_pay4 x0 x1 x2 x3) ∗ owns (c : Thread nD τ) arg11 fullShare (idx1 i x0 x4 x5 x6 (scr1 i x0 x1 x2 x3 x7 s)) ∗ owns (c : Thread nD τ) arg12 fullShare (scr1 i x0 x1 x2 x3 x7 s)) -∗ K ⟨⟩))
          ⊢ wp frame (wpE (defs₀ (F := F)) Variants.none c none) E (cc1__body i arg2 harg2 arg3 harg3 arg4 harg4 arg5 harg5 arg6 harg6 arg7 harg7 arg8 harg8 arg9 harg9 arg10 harg10 arg11 harg11 arg12 harg12) K := by
    intro E K
    rw [cc1_eq_core]; unfold core1 k1_part1_skel k1_part2_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, ⟨%d9, %f9, -, H9⟩, ⟨%fs0, %hs0, HS0⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg12.eq_unread hs0
    simp only [dif_pos (cond1_pos i hi)]
    sl_exec
    sl_step
    iapply Hk

    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [H8]
    · iexists _; isplitr; swap; · iexact H8
      ipureintro
      rw [View.read_writes_full arg10.view]
      rw [View.readAt_full arg2.view, View.readAt_full arg3.view, View.readAt_full arg4.view, View.readAt_full arg5.view, hf0, hf1, hf2, hf3]
    isplitl [H9]
    · iexists _; isplitr; swap; · iexact H9
      ipureintro
      have hw : ∀ y : S32x64.Idx → Elt F .f32, View.read (Elt F) arg12.view (arg12.view.writes (Elt F) (harg12.unread s) [⟨Rect.unit (k1_off1 i) S32x64.size (k1_off1_inb i), y⟩, ⟨Rect.unit ![0, 0] S128x64.size inb_S256x64_S128x64_0_0, k1_pay5 x7⟩]) = updRows (n := 256) (128 + 32 * (i 1).val) (if (i 1).val = 0 then updTop (n := 256) s (k1_pay5 x7) else s) y := by
        intro y; funext j
        rw [if_pos hi]
        refine (View.read_writes_cons_rows arg12.view _ (k1_off1_inb i) (w := y) _ j (off1_eq i) rfl rfl).trans ?_
        unfold updRows; congr 1; funext _
        refine (View.read_writes_cons_rows arg12.view _ inb_S256x64_S128x64_0_0 _ [] j rfl rfl rfl).trans ?_
        unfold updTop; congr 1; funext _; exact congrFun hs0 j
      dsimp only
      unfold body1_A.sl.v41 body1_A.sl.HS0_2
      rw [View.read_writes_full arg11.view]
      rw [View.readAt_full arg2.view, View.readAt_full arg3.view, View.readAt_full arg4.view, View.readAt_full arg5.view, View.readAt_full arg6.view, View.readAt_full arg7.view, View.readAt_full arg8.view, View.readAt_full arg9.view, View.readAt_full arg12.view, hf0, hf1, hf2, hf3, hf4, hf5, hf6, hf7, hw]
      rfl
    iexists _; isplitr; swap; · iexact HS0
    ipureintro
    have hw : ∀ y : S32x64.Idx → Elt F .f32, View.read (Elt F) arg12.view (arg12.view.writes (Elt F) (harg12.unread s) [⟨Rect.unit (k1_off1 i) S32x64.size (k1_off1_inb i), y⟩, ⟨Rect.unit ![0, 0] S128x64.size inb_S256x64_S128x64_0_0, k1_pay5 x7⟩]) = updRows (n := 256) (128 + 32 * (i 1).val) (if (i 1).val = 0 then updTop (n := 256) s (k1_pay5 x7) else s) y := by
      intro y; funext j
      rw [if_pos hi]
      refine (View.read_writes_cons_rows arg12.view _ (k1_off1_inb i) (w := y) _ j (off1_eq i) rfl rfl).trans ?_
      unfold updRows; congr 1; funext _
      refine (View.read_writes_cons_rows arg12.view _ inb_S256x64_S128x64_0_0 _ [] j rfl rfl rfl).trans ?_
      unfold updTop; congr 1; funext _; exact congrFun hs0 j
    unfold body1_A.sl.HS0_2
    rw [View.readAt_full arg2.view, View.readAt_full arg3.view, View.readAt_full arg4.view, View.readAt_full arg5.view, View.readAt_full arg9.view, hf0, hf1, hf2, hf3, hf7, hw]
    rfl

end Cert.KernelIdeal.Run

end
-- ==== Proof.KiBody1B.lean ====
module

public import proofs.«01_k».proof.Proof.Gen.KernelIdeal.Launch
public import proofs.«01_k».proof.Proof.Gen.KernelIdeal.Skeleton
public import proofs.«01_k».proof.Proof.Gen.KernelIdeal.Points
public import proofs.«01_k».proof.Proof.Gen.KernelIdeal.Regions
public import Idealize.ShloMosaic.Lib.Pipeline.FrameBody
public import Idealize.ShloMosaic.Lib.Ring
public import Idealize.ShloMosaic.Lib.Tactic
public import Idealize.ShloMosaic.Lib.WordCmp
public import proofs.«01_k».proof.Proof.KiUpd

@[expose] public section

set_option maxRecDepth 65536

noncomputable section

namespace Cert.KernelIdeal.Run

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

theorem cond1_neg (i : grid1.Coords) (h : (i 1).val ≠ 0) : ¬ Scalar.cmpi .ne (Scalar.extui (Scalar.cmpi .eq (BitVec.ofNat 32 (i 1).val) 0#32) : BitVec 32) 0#32 = 1#1 := by
  have h4 : (i 1).val < 4 := (i 1).isLt
  generalize (i 1).val = v at h h4
  match v, h4 with
  | 0, _ => exact absurd rfl h
  | 1, _ => decide
  | 2, _ => decide
  | 3, _ => decide

set_option maxHeartbeats 4000000 in
/-- Call 1's body at a batch's later tiles. -/
theorem body1_B (c : Dev nD) (i : grid1.Coords) (hi : (i 1).val ≠ 0) (arg2 : Memref sig .tc .vmem S1x512x2048 .f32) (harg2 : arg2.IsWhole) (arg3 : Memref sig .tc .vmem S64x2048 .f32) (harg3 : arg3.IsWhole) (arg4 : Memref sig .tc .vmem S64x2048 .f32) (harg4 : arg4.IsWhole) (arg5 : Memref sig .tc .vmem S16x64 .f32) (harg5 : arg5.IsWhole) (arg6 : Memref sig .tc .vmem S64x2048 .f32) (harg6 : arg6.IsWhole) (arg7 : Memref sig .tc .vmem S1024x64 .f32) (harg7 : arg7.IsWhole) (arg8 : Memref sig .tc .vmem S16x2048 .f32) (harg8 : arg8.IsWhole) (arg9 : Memref sig .tc .vmem S1x128x64 .f32) (harg9 : arg9.IsWhole) (arg10 : Memref sig .tc .vmem S1x32x64 .f32) (harg10 : arg10.IsWhole) (arg11 : Memref sig .tc .vmem S1x512x64 .i32) (harg11 : arg11.IsWhole) (arg12 : Memref sig .tc .vmem S256x64 .f32) (harg12 : arg12.IsWhole)
    (x0 : Vec F S1x512x2048 .f32) (x1 : Vec F S64x2048 .f32) (x2 : Vec F S64x2048 .f32) (x3 : Vec F S16x64 .f32) (x4 : Vec F S64x2048 .f32) (x5 : Vec F S1024x64 .f32) (x6 : Vec F S16x2048 .f32) (x7 : Vec F S1x128x64 .f32) (s : Vec F S256x64 .f32) :
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ (∃ d, owns (c : Thread nD τ) arg10 fullShare d) ∗ (∃ d, owns (c : Thread nD τ) arg11 fullShare d) ∗ owns (c : Thread nD τ) arg12 fullShare s
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare (k1_pay4 x0 x1 x2 x3) ∗ owns (c : Thread nD τ) arg11 fullShare (idx1 i x0 x4 x5 x6 (scr1 i x0 x1 x2 x3 x7 s)) ∗ owns (c : Thread nD τ) arg12 fullShare (scr1 i x0 x1 x2 x3 x7 s)) -∗ K ⟨⟩))
          ⊢ wp frame (wpE (defs₀ (F := F)) Variants.none c none) E (cc1__body i arg2 harg2 arg3 harg3 arg4 harg4 arg5 harg5 arg6 harg6 arg7 harg7 arg8 harg8 arg9 harg9 arg10 harg10 arg11 harg11 arg12 harg12) K := by
    intro E K
    rw [cc1_eq_core]; unfold core1 k1_part1_skel k1_part2_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, ⟨%d9, %f9, -, H9⟩, ⟨%fs0, %hs0, HS0⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg12.eq_unread hs0
    simp only [dif_neg (cond1_neg i hi)]
    sl_exec
    sl_step
    iapply Hk

    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [H8]
    · iexists _; isplitr; swap; · iexact H8
      ipureintro
      rw [View.read_writes_full arg10.view]
      rw [View.readAt_full arg2.view, View.readAt_full arg3.view, View.readAt_full arg4.view, View.readAt_full arg5.view, hf0, hf1, hf2, hf3]
    isplitl [H9]
    · iexists _; isplitr; swap; · iexact H9
      ipureintro
      have hw : ∀ y : S32x64.Idx → Elt F .f32, View.read (Elt F) arg12.view (arg12.view.writes (Elt F) (harg12.unread s) [⟨Rect.unit (k1_off1 i) S32x64.size (k1_off1_inb i), y⟩]) = updRows (n := 256) (128 + 32 * (i 1).val) (if (i 1).val = 0 then updTop (n := 256) s (k1_pay5 x7) else s) y := by
        intro y; funext j
        rw [if_neg hi]
        refine (View.read_writes_cons_rows arg12.view _ (k1_off1_inb i) (w := y) _ j (off1_eq i) rfl rfl).trans ?_
        unfold updRows; congr 1; funext _
        exact congrFun hs0 j
      dsimp only
      unfold body1_B.sl.HS0_1
      rw [View.read_writes_full arg11.view]
      rw [View.readAt_full arg2.view, View.readAt_full arg3.view, View.readAt_full arg4.view, View.readAt_full arg5.view, View.readAt_full arg6.view, View.readAt_full arg7.view, View.readAt_full arg8.view, View.readAt_full arg12.view, hf0, hf1, hf2, hf3, hf4, hf5, hf6, hw]
      rfl
    iexists _; isplitr; swap; · iexact HS0
    ipureintro
    have hw : ∀ y : S32x64.Idx → Elt F .f32, View.read (Elt F) arg12.view (arg12.view.writes (Elt F) (harg12.unread s) [⟨Rect.unit (k1_off1 i) S32x64.size (k1_off1_inb i), y⟩]) = updRows (n := 256) (128 + 32 * (i 1).val) (if (i 1).val = 0 then updTop (n := 256) s (k1_pay5 x7) else s) y := by
      intro y; funext j
      rw [if_neg hi]
      refine (View.read_writes_cons_rows arg12.view _ (k1_off1_inb i) (w := y) _ j (off1_eq i) rfl rfl).trans ?_
      unfold updRows; congr 1; funext _
      exact congrFun hs0 j
    unfold body1_B.sl.HS0_1
    rw [View.readAt_full arg2.view, View.readAt_full arg3.view, View.readAt_full arg4.view, View.readAt_full arg5.view, hf0, hf1, hf2, hf3, hw]
    rfl

end Cert.KernelIdeal.Run

end
-- ==== Proof.KiSound1.lean ====
module

public import proofs.«01_k».proof.Proof.Gen.KernelIdeal.Launch
public import proofs.«01_k».proof.Proof.Gen.KernelIdeal.Skeleton
public import proofs.«01_k».proof.Proof.Gen.KernelIdeal.Points
public import proofs.«01_k».proof.Proof.Gen.KernelIdeal.Regions
public import Idealize.ShloMosaic.Lib.Pipeline.FrameBody
public import Idealize.ShloMosaic.Lib.Ring
public import Idealize.ShloMosaic.Lib.Tactic
public import Idealize.ShloMosaic.Lib.WordCmp
public import proofs.«01_k».proof.Proof.KiDats
public import proofs.«01_k».proof.Proof.KiBody1A
public import proofs.«01_k».proof.Proof.KiBody1B
public import Idealize.ShloMosaic.Lib.Pipeline.DatRel
public import Idealize.ShloMosaic.Lib.Pipeline.ArrRel
public import Idealize.ShloMosaic.Lib.Pipeline.RegionsLoop
public import Idealize.ShloMosaic.Lib.Pipeline.RegionsOwned

@[expose] public section

set_option maxRecDepth 65536

noncomputable section

namespace Cert.KernelIdeal.Run

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

open Idealize.ShloMosaic.Rounds
open Idealize.ShloMosaic.Pipeline (Dat Cfg Window BodyObligation cellOf)
local notation "𝕄" => MT nD τ sig Unit (Elt F) ℕ (UR sig nD τ) ℕ

variable (m : (ℓ : Loc nD τ sig) → Buf (Elt F) ℓ) (T : Track m)

/-- What call 1's body is called with at point `t`, and what it returns. -/
def bPre1 (c : Dev nD) (t : Fin cfg1.N) : sProp 𝕄 := iprop((dat1 m T c).Φ t.castSucc ∗ (dat1 m T c).owesAt () t.castSucc ∗ (∃ d, owns (c : Thread nD τ) (st1_0 t) fullShare ((dat1 m T c).before 0 t d)) ∗ (∃ d, owns (c : Thread nD τ) (st1_1 t) fullShare ((dat1 m T c).before 1 t d)) ∗ (∃ d, owns (c : Thread nD τ) (st1_2 t) fullShare ((dat1 m T c).before 2 t d)) ∗ (∃ d, owns (c : Thread nD τ) (st1_3 t) fullShare ((dat1 m T c).before 3 t d)) ∗ (∃ d, owns (c : Thread nD τ) (st1_4 t) fullShare ((dat1 m T c).before 4 t d)) ∗ (∃ d, owns (c : Thread nD τ) (st1_5 t) fullShare ((dat1 m T c).before 5 t d)) ∗ (∃ d, owns (c : Thread nD τ) (st1_6 t) fullShare ((dat1 m T c).before 6 t d)) ∗ (∃ d, owns (c : Thread nD τ) (st1_7 t) fullShare ((dat1 m T c).before 7 t d)) ∗ (∃ d, owns (c : Thread nD τ) (st1_8 t) fullShare ((dat1 m T c).before 8 t d)) ∗ (∃ Y, ⌜((dat1 m T c).toRRel fgt1 (Rl1 m T c)).Finds 9 t Y⌝ ∗ owns (c : Thread nD τ) (st1_9 t) fullShare Y))
def bPost1 (c : Dev nD) (t : Fin cfg1.N) : sProp 𝕄 := iprop((dat1 m T c).Φ t.succ ∗ (dat1 m T c).owesAt () t.succ ∗ owns (c : Thread nD τ) (st1_0 t) fullShare ((dat1 m T c).after 0 t) ∗ owns (c : Thread nD τ) (st1_1 t) fullShare ((dat1 m T c).after 1 t) ∗ owns (c : Thread nD τ) (st1_2 t) fullShare ((dat1 m T c).after 2 t) ∗ owns (c : Thread nD τ) (st1_3 t) fullShare ((dat1 m T c).after 3 t) ∗ owns (c : Thread nD τ) (st1_4 t) fullShare ((dat1 m T c).after 4 t) ∗ owns (c : Thread nD τ) (st1_5 t) fullShare ((dat1 m T c).after 5 t) ∗ owns (c : Thread nD τ) (st1_6 t) fullShare ((dat1 m T c).after 6 t) ∗ owns (c : Thread nD τ) (st1_7 t) fullShare ((dat1 m T c).after 7 t) ∗ owns (c : Thread nD τ) (st1_8 t) fullShare ((dat1 m T c).after 8 t) ∗ (∃ X, ⌜Rl1 m T c 9 t X⌝ ∗ owns (c : Thread nD τ) (st1_9 t) fullShare X))

set_option maxHeartbeats 1600000 in
/-- Call 1's body at any point, over the proof data. -/
theorem sound1 (c : Dev nD) (t : Fin cfg1.N) :
    bPre1 m T c t ⊢ wp frame (wpE (defs₀ (F := F)) Variants.none c none) Set.univ (bodyAt1 t) (fun _ => bPost1 m T c t) := by
  unfold bPre1 bPost1 bodyAt1
  simp only [before1_0, before1_1, before1_2, before1_3, before1_4, before1_5, before1_6, before1_7]
  rw [show (dat1 m T c).owesAt () t.succ = (dat1 m T c).owesAt () t.castSucc from rfl, after1_0, after1_1, after1_2, after1_3, after1_4, after1_5, after1_6, after1_7, after1_8]
  rw [show (dat1 m T c).Φ t.castSucc = Phi1 m T c t.castSucc from rfl, show (dat1 m T c).Φ t.succ = Phi1 m T c t.succ from rfl]
  unfold Phi1
  by_cases h0 : (grid1.coords t 1).val = 0
  · iintro ⟨⟨⟨%s, %hs, HS⟩, Hr, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%dY, -, H9⟩⟩
    iapply ((body1_A c (grid1.coords t) h0 _ _ _ _ _ _ _ _ _ _ _ _ _ _ _ _ _ _ _ _ _ _ (iblk1 m c 0 t) (iblk1 m c 1 t) (iblk1 m c 2 t) (iblk1 m c 3 t) (iblk1 m c 4 t) (iblk1 m c 5 t) (iblk1 m c 6 t) (iblk1 m c 7 t) s) Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexists _; iexact H8
    isplitl [H9]; · iexists _; iexact H9
    isplitl [HS]; · iexact HS
    iintro ⟨H0, H1, H2, H3, H4, H5, H6, H7, H8, H9, HS⟩
    isplitl [HS Hr Hg]
    · isplitl [HS]
      · iexists _; isplitr; swap; · iexact HS
        ipureintro; exact (T.step1 c t s hs).1
      isplitl [Hr]; · iexact Hr
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    iexists _; isplitr; swap; · iexact H9
    ipureintro; exact (T.step1 c t s hs).2
  · iintro ⟨⟨⟨%s, %hs, HS⟩, Hr, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%dY, -, H9⟩⟩
    iapply ((body1_B c (grid1.coords t) h0 _ _ _ _ _ _ _ _ _ _ _ _ _ _ _ _ _ _ _ _ _ _ (iblk1 m c 0 t) (iblk1 m c 1 t) (iblk1 m c 2 t) (iblk1 m c 3 t) (iblk1 m c 4 t) (iblk1 m c 5 t) (iblk1 m c 6 t) (iblk1 m c 7 t) s) Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexists _; iexact H8
    isplitl [H9]; · iexists _; iexact H9
    isplitl [HS]; · iexact HS
    iintro ⟨H0, H1, H2, H3, H4, H5, H6, H7, H8, H9, HS⟩
    isplitl [HS Hr Hg]
    · isplitl [HS]
      · iexists _; isplitr; swap; · iexact HS
        ipureintro; exact (T.step1 c t s hs).1
      isplitl [Hr]; · iexact Hr
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    iexists _; isplitr; swap; · iexact H9
    ipureintro; exact (T.step1 c t s hs).2

/-- The body table's row at point `t`'s slots is the body. -/
theorem defs₀_row1 (t : Fin cfg1.N) : defs₀ (F := F) .tc cfg1.body (cfg1.bodyArgs t (cfg1.slots t)) = bodyAt1 t := by
  unfold defs₀; rw [Defs.onTc_tc]

/-- Call 1's body obligation. -/
theorem obligation1 (c : Dev nD) : Pipeline.BodyObligationRel (dat1 m T c) (defs₀ (F := F)) Variants.none () Set.univ fgt1 (Rl1 m T c) := fun t => by
  rw [bigSep_W1, bigSep_W1, defs₀_row1]
  exact triple_restated (sound1 m T c t) rfl .rfl fun _ => .rfl

end Cert.KernelIdeal.Run

end
-- ==== Proof.KiRegions.lean ====
module

public import proofs.«01_k».proof.Proof.Gen.KernelIdeal.Launch
public import proofs.«01_k».proof.Proof.Gen.KernelIdeal.Skeleton
public import proofs.«01_k».proof.Proof.Gen.KernelIdeal.Points
public import proofs.«01_k».proof.Proof.Gen.KernelIdeal.Regions
public import Idealize.ShloMosaic.Lib.Pipeline.FrameBody
public import Idealize.ShloMosaic.Lib.Ring
public import Idealize.ShloMosaic.Lib.Tactic
public import Idealize.ShloMosaic.Lib.WordCmp
public import proofs.«01_k».proof.Proof.KiSound0
public import proofs.«01_k».proof.Proof.KiSound1
public import Idealize.ShloMosaic.Lib.Pipeline.DatRel
public import Idealize.ShloMosaic.Lib.Pipeline.ArrRel
public import Idealize.ShloMosaic.Lib.Pipeline.RegionsLoop
public import Idealize.ShloMosaic.Lib.Pipeline.RegionsOwned

@[expose] public section

set_option maxRecDepth 65536

noncomputable section

namespace Cert.KernelIdeal.Run

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

open Idealize.ShloMosaic.Rounds
open Idealize.ShloMosaic.Pipeline (Dat Cfg Window BodyObligation cellOf)
local notation "𝕄" => MT nD τ sig Unit (Elt F) ℕ (UR sig nD τ) ℕ

variable (m : (ℓ : Loc nD τ sig) → Buf (Elt F) ℓ) (T : Track m)

/-- No core owes another anything: no level is assigned. -/
abbrev L : GSem nD τ sig → Finset Unit := fun _ => ∅
abbrev lv : GSem nD τ sig → Unit → ℕ := fun _ _ => 0

/-- The scoped buffers beside region 0's windows are its scratch and the rest; and region 1's. -/
theorem scoped0_eq (c : Dev nD) : (Pipeline.scopedRest spec0 c : sProp 𝕄) = iprop((∃ d, owns (c : Thread nD τ) scM0 fullShare d) ∗ rest0 c) := by
  rw [scopedRest0_eq]; simp only [scM0, owns_whole]; rfl
theorem scoped1_eq (c : Dev nD) : (Pipeline.scopedRest spec1 c : sProp 𝕄) ⊢ iprop((∃ d, owns (c : Thread nD τ) scM1 fullShare d) ∗ rest1 c) := by
  rw [scopedRest1_eq]; simp only [scM1, owns_whole]; unfold rest1
  iintro ⟨H0, H1, H2, H3, H4, H5, H6, H7, H8, H9, H10, H11, H12, HS⟩
  isplitl [HS]; · iexact HS
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  iexact H12
theorem scoped1_back (c : Dev nD) : iprop((∃ d, owns (c : Thread nD τ) scM1 fullShare d) ∗ rest1 c) ⊢ (Pipeline.scopedRest spec1 c : sProp 𝕄) := by
  rw [scopedRest1_eq]; simp only [scM1, owns_whole]; unfold rest1
  iintro ⟨HS, H0, H1, H2, H3, H4, H5, H6, H7, H8, H9, H10, H11, H12⟩
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  iexact HS

/-- The arrays after the region's points, at some contents that they may hold. -/
theorem arrays_open {Λ : Labels} {cfg : Cfg sig Λ} {c : Dev nD} (rd : Pipeline.RDat τ (Elt F) Unit ℕ (UR sig nD τ) ℕ cfg c) (n : ℕ) :
    (rd.arraysAt n : sProp 𝕄) ⊢ iprop(∃ A : (w : Fin cfg.W) → Buf (Elt F) ((cfg.win w).arr.view.loc (c.tc : Thread nD τ)), ⌜∀ w, rd.ArrAt w n (A w)⌝ ∗ rd.arrays A) := by
  unfold Pipeline.RDat.arraysAt Pipeline.RDat.arrays
  refine (BI.bigSep_exists_pi Finset.univ _).trans ?_
  iintro ⟨%A, H⟩
  ihave H' := (BI.bigSep_pure_sep Finset.univ (fun w => rd.ArrAt w n (A w)) _) $$ H
  icases H' with ⟨%hA, H⟩
  iexists A
  isplitr
  · ipureintro; exact fun w => hA w (Finset.mem_univ w)
  iexact H

/-- A window the body leaves exactly holds what the data name. -/
theorem arrAt_exact {Λ : Labels} {cfg : Cfg sig Λ} {c : Dev nD} (d : Dat τ (Elt F) Unit ℕ (UR sig nD τ) ℕ cfg c) (fgt Rl) {w : Fin cfg.W} (h : fgt w = false)
    (n : ℕ) (G) : (d.toRRel fgt Rl).ArrAt w n G → G = d.arrAt w n :=
  fun hG => (d.toR_arrAt_iff w n G).mp ((d.toR.override_arrAt (by simp only [h]) n G).mp hG)

/-- What rides beside the buffers. -/
abbrev Er (c : Dev nD) : sProp 𝕄 := iprop((∃ r, prngReg c r) ∗ ∃ W, owes (c : Thread nD τ) (0 : CellTallies nD τ sig Unit) W)

/-- The positions' array after region 0 may be. -/
def Ok0 (c : Dev nD) (o : Buf (Elt F) ((c : Thread nD τ).loc main_call0_v0_1)) : Prop := ((dat0 m T c).toRRel fgt0 (Rl0 m T c)).ArrAt 8 cfg0.N o
def Ok1 (c : Dev nD) (o : Buf (Elt F) ((c : Thread nD τ).loc main_call0_v1_1)) : Prop := ((dat1 m T c).toRRel fgt1 (Rl1 m T c)).ArrAt 9 cfg1.N o

/-- The thread states. -/
abbrev St0 (c : Dev nD) : sProp 𝕄 := iprop(StableHlo.held (c : Thread nD τ) (Pipeline.ucRefs τ sig) (V0 m c) ∗ Er c)
abbrev St1 (c : Dev nD) : sProp 𝕄 := iprop((∃ o, ⌜Ok0 m T c o⌝ ∗ StableHlo.held (c : Thread nD τ) (Pipeline.ucRefs τ sig) (W1 m c (kic0 m c) o)) ∗ Er c)
abbrev Gam (c : Dev nD) : Type := {p : Buf (Elt F) ((c : Thread nD τ).loc main_call0_v0_1) × Buf (Elt F) ((c : Thread nD τ).loc main_call0_v1_1) // Ok0 m T c p.1 ∧ Ok1 m T c p.2}
abbrev VG (c : Dev nD) (γ : Gam m T c) : Valuation τ sig (Elt F) := W2 m c (kic0 m c) γ.1.1 (kic1 m c) γ.1.2
abbrev St2 (c : Dev nD) : sProp 𝕄 := iprop((∃ γ, StableHlo.held (c : Thread nD τ) (Pipeline.ucRefs τ sig) (VG m T c γ)) ∗ Er c)

/-- What each of region 0's arrays holds after it, and of region 1's; and region 1's arrays as it is entered. -/
theorem exit0 (c : Dev nD) (A : (w : Fin cfg0.W) → Buf (Elt F) ((cfg0.win w).arr.view.loc (c.tc : Thread nD τ)))
    (hA : ∀ w, ((dat0 m T c).toRRel fgt0 (Rl0 m T c)).ArrAt w cfg0.N (A w)) : ∀ w : Fin cfg0.W, A w = W1 m c (kic0 m c) (A 8) (Pipeline.arrRef spec0 w) := by
  have hx : ∀ w : Fin cfg0.W, fgt0 w = false → A w = (dat0 m T c).arrAt w cfg0.N := fun w hw => arrAt_exact _ _ _ hw _ _ (hA w)
  intro w
  match w with
  | ⟨0, _⟩ => exact ((hx 0 rfl).trans ((dat0 m T c).arrAt_in 0 rfl _)).trans (W1_of m c _ _ (Pipeline.arrRef spec0 0) (by decide)).symm
  | ⟨1, _⟩ => exact ((hx 1 rfl).trans ((dat0 m T c).arrAt_in 1 rfl _)).trans (W1_of m c _ _ (Pipeline.arrRef spec0 1) (by decide)).symm
  | ⟨2, _⟩ => exact ((hx 2 rfl).trans ((dat0 m T c).arrAt_in 2 rfl _)).trans (W1_of m c _ _ (Pipeline.arrRef spec0 2) (by decide)).symm
  | ⟨3, _⟩ => exact ((hx 3 rfl).trans ((dat0 m T c).arrAt_in 3 rfl _)).trans (W1_of m c _ _ (Pipeline.arrRef spec0 3) (by decide)).symm
  | ⟨4, _⟩ => exact ((hx 4 rfl).trans ((dat0 m T c).arrAt_in 4 rfl _)).trans (W1_of m c _ _ (Pipeline.arrRef spec0 4) (by decide)).symm
  | ⟨5, _⟩ => exact ((hx 5 rfl).trans ((dat0 m T c).arrAt_in 5 rfl _)).trans (W1_of m c _ _ (Pipeline.arrRef spec0 5) (by decide)).symm
  | ⟨6, _⟩ => exact ((hx 6 rfl).trans ((dat0 m T c).arrAt_in 6 rfl _)).trans (W1_of m c _ _ (Pipeline.arrRef spec0 6) (by decide)).symm
  | ⟨7, _⟩ => exact ((hx 7 rfl).trans (kic0_eq m _ c)).trans (W1_kic m c _ _).symm
  | ⟨8, _⟩ => exact (W1_idx m c _ _).symm
theorem entry1 (c : Dev nD) (o) : ∀ w : Fin cfg1.W, W1 m c (kic0 m c) o (Pipeline.arrRef spec1 w) = V1r m c (Pipeline.arrRef spec1 w) := by
  intro w
  match w with
  | ⟨0, _⟩ => exact (W1_of m c (kic0 m c) o (Pipeline.arrRef spec1 0) (by decide)).trans (W1_of m c (kic0 m c) _ (Pipeline.arrRef spec1 0) (by decide)).symm
  | ⟨1, _⟩ => exact (W1_of m c (kic0 m c) o (Pipeline.arrRef spec1 1) (by decide)).trans (W1_of m c (kic0 m c) _ (Pipeline.arrRef spec1 1) (by decide)).symm
  | ⟨2, _⟩ => exact (W1_of m c (kic0 m c) o (Pipeline.arrRef spec1 2) (by decide)).trans (W1_of m c (kic0 m c) _ (Pipeline.arrRef spec1 2) (by decide)).symm
  | ⟨3, _⟩ => exact (W1_of m c (kic0 m c) o (Pipeline.arrRef spec1 3) (by decide)).trans (W1_of m c (kic0 m c) _ (Pipeline.arrRef spec1 3) (by decide)).symm
  | ⟨4, _⟩ => exact (W1_of m c (kic0 m c) o (Pipeline.arrRef spec1 4) (by decide)).trans (W1_of m c (kic0 m c) _ (Pipeline.arrRef spec1 4) (by decide)).symm
  | ⟨5, _⟩ => exact (W1_of m c (kic0 m c) o (Pipeline.arrRef spec1 5) (by decide)).trans (W1_of m c (kic0 m c) _ (Pipeline.arrRef spec1 5) (by decide)).symm
  | ⟨6, _⟩ => exact (W1_of m c (kic0 m c) o (Pipeline.arrRef spec1 6) (by decide)).trans (W1_of m c (kic0 m c) _ (Pipeline.arrRef spec1 6) (by decide)).symm
  | ⟨7, _⟩ => exact (W1_kic m c _ _).trans (W1_kic m c _ _).symm
  | ⟨8, _⟩ => exact (W1_of m c (kic0 m c) o (Pipeline.arrRef spec1 8) (by decide)).trans (W1_of m c (kic0 m c) _ (Pipeline.arrRef spec1 8) (by decide)).symm
  | ⟨9, _⟩ => exact (W1_of m c (kic0 m c) o (Pipeline.arrRef spec1 9) (by decide)).trans (W1_of m c (kic0 m c) _ (Pipeline.arrRef spec1 9) (by decide)).symm
theorem exit1 (c : Dev nD) (o) (A : (w : Fin cfg1.W) → Buf (Elt F) ((cfg1.win w).arr.view.loc (c.tc : Thread nD τ)))
    (hA : ∀ w, ((dat1 m T c).toRRel fgt1 (Rl1 m T c)).ArrAt w cfg1.N (A w)) : ∀ w : Fin cfg1.W, A w = W2 m c (kic0 m c) o (kic1 m c) (A 9) (Pipeline.arrRef spec1 w) := by
  have hx : ∀ w : Fin cfg1.W, fgt1 w = false → A w = (dat1 m T c).arrAt w cfg1.N := fun w hw => arrAt_exact _ _ _ hw _ _ (hA w)
  have hi : ∀ w : Fin cfg1.W, (cfg1.win w).isOut = false → fgt1 w = false → Pipeline.arrRef spec1 w ∉ ([main_call0_v1_0, main_call0_v1_1] : List (Ref sig .tc)) →
      A w = W2 m c (kic0 m c) o (kic1 m c) (A 9) (Pipeline.arrRef spec1 w) := fun w h h' hn =>
    (((hx w h').trans ((dat1 m T c).arrAt_in w h _)).trans (entry1 m c o w).symm).trans (W2_of m c _ _ _ _ _ hn).symm
  intro w
  match w with
  | ⟨0, _⟩ => exact hi 0 rfl rfl (by decide)
  | ⟨1, _⟩ => exact hi 1 rfl rfl (by decide)
  | ⟨2, _⟩ => exact hi 2 rfl rfl (by decide)
  | ⟨3, _⟩ => exact hi 3 rfl rfl (by decide)
  | ⟨4, _⟩ => exact hi 4 rfl rfl (by decide)
  | ⟨5, _⟩ => exact hi 5 rfl rfl (by decide)
  | ⟨6, _⟩ => exact hi 6 rfl rfl (by decide)
  | ⟨7, _⟩ => exact hi 7 rfl rfl (by decide)
  | ⟨8, _⟩ => exact ((hx 8 rfl).trans (kic1_eq m _ c)).trans (W2_kic m c _ _ _ _).symm
  | ⟨9, _⟩ => exact (W2_idx m c _ _ _ _).symm

set_option backward.isDefEq.respectTransparency.types false in
/-- Region 0. -/
def reg0 : Pipeline.RDat.RegionSeg (pcfgs (F := F)) adm (rdats m T) () defs₀ Variants.none L lv 0 where
  win := launch0.win.to₀
  block_pos := launch0.block_pos
  stage_whole := launch0.stage_whole
  K := PEmpty
  osem := fun k => k.elim
  ho := Pipeline.OwnSemFacts.none _
  hbody c := (obligation0 m T c).toRRel
  hwaits := Pipeline.RDat.hwaits_of_owed_zero _ _ _ _ L lv 0 fun _ _ => rfl
  pre c := St0 m c
  post c := St1 m T c
  X c := iprop(∃ r, prngReg c r)
  Y c := iprop(∃ r, prngReg c r)
  Z c := Pipeline.unscopedRest spec0 c (fun r => V0 m c r)
  hentry c := by
    have hsplit := Pipeline.RDat.arrays_of_unscopedBufs (pcfgs (F := F)) adm (rdats m T) (p := 0) launch0.win launch0.arr_whole c
      ((dat0 m T c).share_full fun _ => rfl) (fun r => V0 m c r) (fun w => rfl)
    rw [Pipeline.ownSems0_none]
    unfold St0
    rw [← Pipeline.unscopedBufs_held]
    iintro ⟨⟨Hub, Hp, HO⟩, -, -⟩
    ihave H := hsplit $$ Hub
    icases H with ⟨Ha, Hu⟩
    imodintro
    isplitl [Ha]; · iexact Ha
    isplitr; · unfold Pipeline.prefHeld; rw [show (Finset.univ : Finset (Fin 0)) = ∅ from rfl, BI.bigSep_empty]; iempintro
    isplitl [HO]
    · unfold Pipeline.RDat.owesAt Pipeline.owesWithin
      icases HO with ⟨%W, HO⟩; iexists W; isplitr; · ipureintro; exact fun _ _ => Or.inl trivial
      iexact HO
    isplitl [Hp]; · iexact Hp
    iexact Hu
  hin c := by
    show _ ⊢ Phi0 m T c 0
    unfold Phi0
    rw [show Pipeline.scopedRest (Pipeline.pin (pcfgs (F := F)) adm 0).spec c = (Pipeline.scopedRest spec0 c : sProp 𝕄) from rfl, scoped0_eq]
    iintro ⟨Hp, -, ⟨%d, Hs⟩, Hr⟩
    isplitl [Hs]
    · iexists d; isplitr; · ipureintro; exact T.start0 c d
      iexact Hs
    isplitl [Hr]; · iexact Hr
    iexact Hp
  hout c := by
    show Phi0 m T c _ ⊢ _
    unfold Phi0
    rw [show Pipeline.scopedRest (Pipeline.pin (pcfgs (F := F)) adm 0).spec c = (Pipeline.scopedRest spec0 c : sProp 𝕄) from rfl, scoped0_eq, Pipeline.ownSems0_none]
    iintro ⟨⟨%s, -, Hs⟩, Hr, Hp⟩
    isplitl [Hp]; · iexact Hp
    isplitr; · iempintro
    isplitl [Hs]; · iexists s; iexact Hs
    iexact Hr
  hexit c := by
    show iprop(((dat0 m T c).toRRel fgt0 (Rl0 m T c)).arraysAt cfg0.N ∗ _ ∗ _ ∗ _) ⊢ _
    iintro ⟨Ha, HO, HY, HZ⟩
    ihave Ha := (arrays_open ((dat0 m T c).toRRel fgt0 (Rl0 m T c)) cfg0.N) $$ Ha
    icases Ha with ⟨%A, %hA, Ha⟩
    imodintro
    isplitl [Ha HZ]
    · iexists A 8
      isplitr; · ipureintro; exact hA 8
      rw [← Pipeline.unscopedBufs_held]
      iapply (Pipeline.unscopedBufs_of_arrays (pcfgs (F := F)) adm (p := 0) launch0.win launch0.arr_whole c (pdats m T) ((dat0 m T c).share_full fun _ => rfl)
        (fun r => V0 m c r) (fun r => W1 m c (kic0 m c) (A 8) r) A (fun w => ?_) (fun b hb => ?_))
      rotate_left
      · exact W1_of m c _ _ b fun h => hb (by
          rcases List.mem_cons.mp h with rfl | h
          · exact Finset.mem_image.mpr ⟨(7 : Fin 9), Finset.mem_univ _, rfl⟩
          · rcases List.mem_cons.mp h with rfl | h
            · exact Finset.mem_image.mpr ⟨(8 : Fin 9), Finset.mem_univ _, rfl⟩
            · exact absurd h List.not_mem_nil)
      · isplitl [Ha]
        · iapply (show (((dat0 m T c).toRRel fgt0 (Rl0 m T c)).arrays A : sProp 𝕄) ⊢ (pdats m T 0 c).arrays A from .rfl); iexact Ha
        iexact HZ
      · exact exit0 m T c A hA w
    isplitl [HY]; · iexact HY
    unfold Pipeline.RDat.owesAt Pipeline.owesWithin
    icases HO with ⟨%W, -, HO⟩; iexists W; iexact HO

set_option backward.isDefEq.respectTransparency.types false in
/-- Region 1. -/
def reg1 : Pipeline.RDat.RegionSeg (pcfgs (F := F)) adm (rdats m T) () defs₀ Variants.none L lv 1 where
  win := launch1.win.to₀
  block_pos := launch1.block_pos
  stage_whole := launch1.stage_whole
  K := PEmpty
  osem := fun k => k.elim
  ho := Pipeline.OwnSemFacts.none _
  hbody c := (obligation1 m T c).toRRel
  hwaits := Pipeline.RDat.hwaits_of_owed_zero _ _ _ _ L lv 1 fun _ _ => rfl
  pre c := St1 m T c
  post c := St2 m T c
  X c := iprop(∃ r, prngReg c r)
  Y c := iprop(∃ r, prngReg c r)
  Z c := iprop(∃ o, ⌜Ok0 m T c o⌝ ∗ Pipeline.unscopedRest spec1 c (fun r => W1 m c (kic0 m c) o r))
  hentry c := by
    have hsplit := fun o => Pipeline.RDat.arrays_of_unscopedBufs (pcfgs (F := F)) adm (rdats m T) (p := 1) launch1.win launch1.arr_whole c
      ((dat1 m T c).share_full fun _ => rfl) (fun r => W1 m c (kic0 m c) o r) (fun w => (entry1 m c o w).symm)
    rw [Pipeline.ownSems0_none]
    unfold St1
    iintro ⟨⟨⟨%o, %ho, Hub⟩, Hp, HO⟩, -, -⟩
    ihave Hub := (show StableHlo.held (c : Thread nD τ) (Pipeline.ucRefs τ sig) (W1 m c (kic0 m c) o) ⊢ unscopedBufs c (fun b => W1 m c (kic0 m c) o b) from by
      rw [Pipeline.unscopedBufs_held]) $$ Hub
    ihave H := (hsplit o) $$ Hub
    icases H with ⟨Ha, Hu⟩
    imodintro
    isplitl [Ha]; · iexact Ha
    isplitr; · unfold Pipeline.prefHeld; rw [show (Finset.univ : Finset (Fin 0)) = ∅ from rfl, BI.bigSep_empty]; iempintro
    isplitl [HO]
    · unfold Pipeline.RDat.owesAt Pipeline.owesWithin
      icases HO with ⟨%W, HO⟩; iexists W; isplitr; · ipureintro; exact fun _ _ => Or.inl trivial
      iexact HO
    isplitl [Hp]; · iexact Hp
    iexists o; isplitr; · ipureintro; exact ho
    iexact Hu
  hin c := by
    show _ ⊢ Phi1 m T c 0
    unfold Phi1
    iintro ⟨Hp, -, Hsc⟩
    ihave Hsc := (scoped1_eq c) $$ Hsc
    icases Hsc with ⟨⟨%d, Hs⟩, Hr⟩
    isplitl [Hs]
    · iexists d; isplitr; · ipureintro; exact T.start1 c d
      iexact Hs
    isplitl [Hr]; · iexact Hr
    iexact Hp
  hout c := by
    show Phi1 m T c _ ⊢ _
    unfold Phi1
    rw [Pipeline.ownSems0_none]
    iintro ⟨⟨%s, -, Hs⟩, Hr, Hp⟩
    isplitl [Hp]; · iexact Hp
    isplitr; · iempintro
    iapply (scoped1_back c)
    isplitl [Hs]; · iexists s; iexact Hs
    iexact Hr
  hexit c := by
    show iprop(((dat1 m T c).toRRel fgt1 (Rl1 m T c)).arraysAt cfg1.N ∗ _ ∗ _ ∗ _) ⊢ _
    iintro ⟨Ha, HO, HY, ⟨%o, %ho, HZ⟩⟩
    ihave Ha := (arrays_open ((dat1 m T c).toRRel fgt1 (Rl1 m T c)) cfg1.N) $$ Ha
    icases Ha with ⟨%A, %hA, Ha⟩
    imodintro
    isplitl [Ha HZ]
    · iexists (⟨(o, A 9), ho, hA 9⟩ : Gam m T c)
      rw [← Pipeline.unscopedBufs_held]
      iapply (Pipeline.unscopedBufs_of_arrays (pcfgs (F := F)) adm (p := 1) launch1.win launch1.arr_whole c (pdats m T) ((dat1 m T c).share_full fun _ => rfl)
        (fun r => W1 m c (kic0 m c) o r) (fun r => W2 m c (kic0 m c) o (kic1 m c) (A 9) r) A (fun w => ?_) (fun b hb => ?_))
      rotate_left
      · exact W2_of m c _ _ _ _ b fun h => hb (by
          rcases List.mem_cons.mp h with rfl | h
          · exact Finset.mem_image.mpr ⟨(8 : Fin 10), Finset.mem_univ _, rfl⟩
          · rcases List.mem_cons.mp h with rfl | h
            · exact Finset.mem_image.mpr ⟨(9 : Fin 10), Finset.mem_univ _, rfl⟩
            · exact absurd h List.not_mem_nil)
      · isplitl [Ha]
        · iapply (show (((dat1 m T c).toRRel fgt1 (Rl1 m T c)).arrays A : sProp 𝕄) ⊢ (pdats m T 1 c).arrays A from .rfl); iexact Ha
        iexact HZ
      · exact exit1 m T c o A hA w
    isplitl [HY]; · iexact HY
    unfold Pipeline.RDat.owesAt Pipeline.owesWithin
    icases HO with ⟨%W, -, HO⟩; iexists W; iexact HO

end Cert.KernelIdeal.Run

end
-- ==== Proof.KiMain.lean ====
module

public import proofs.«01_k».proof.Proof.Gen.KernelIdeal.Launch
public import proofs.«01_k».proof.Proof.Gen.KernelIdeal.Skeleton
public import proofs.«01_k».proof.Proof.Gen.KernelIdeal.Points
public import proofs.«01_k».proof.Proof.Gen.KernelIdeal.Regions
public import Idealize.ShloMosaic.Lib.Pipeline.FrameBody
public import Idealize.ShloMosaic.Lib.Ring
public import Idealize.ShloMosaic.Lib.Tactic
public import Idealize.ShloMosaic.Lib.WordCmp
public import proofs.«01_k».proof.Proof.KiRegions
public import Idealize.ShloMosaic.Lib.Pipeline.DatRel
public import Idealize.ShloMosaic.Lib.Pipeline.ArrRel
public import Idealize.ShloMosaic.Lib.Pipeline.RegionsLoop
public import Idealize.ShloMosaic.Lib.Pipeline.RegionsOwned

@[expose] public section

set_option maxRecDepth 65536

noncomputable section

namespace Cert.KernelIdeal.Run

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

open Idealize.ShloMosaic.Rounds
open Idealize.ShloMosaic.Pipeline (Dat Cfg Window BodyObligation cellOf)
local notation "𝕄" => MT nD τ sig Unit (Elt F) ℕ (UR sig nD τ) ℕ

variable (m : (ℓ : Loc nD τ sig) → Buf (Elt F) ℓ) (ρ : Dev nD → PrngReg) (T : Track m)

/-- @main as two regions and a host stretch. -/
abbrev segsR : List (Pipeline.RDat.Seg (pcfgs (F := F)) adm (rdats m T) () defs₀ Variants.none L lv) :=
  [.region (reg0 m T), .region (reg1 m T), .host (Pipeline.HostSeg.ofOpsEx _ _ _ _ _ (Γ := Gam m T) (Pipeline.ucRefs τ sig) hostOps2
    (fun op h => Pipeline.sub_ucRefs op ((List.forall_iff_forall_mem.mp hostOps2_sub) op h))
    (fun op h => (List.forall_iff_forall_mem.mp hostOps2_fresh) op h) (VG m T) Er)]

/-- What a final state holds: the arguments as launched, and every unscoped buffer as the host stretch leaves it after the regions. -/
def Post (c : Dev nD) (s : MemSt nD τ sig (Elt F)) : Prop :=
  (∃ γ : Gam m T c, s.mem ((c.tc : Thread nD τ).loc main_v0_0) = StableHlo.after hostOps2 (VG m T c γ) main_v0_0
    ∧ s.mem ((c.tc : Thread nD τ).loc main_v0_1) = StableHlo.after hostOps2 (VG m T c γ) main_v0_1)
  ∧ s.mem ((c.tc : Thread nD τ).loc main_arg0) = m ((c.tc : Thread nD τ).loc main_arg0) ∧ s.mem ((c.tc : Thread nD τ).loc main_arg1) = m ((c.tc : Thread nD τ).loc main_arg1) ∧ s.mem ((c.tc : Thread nD τ).loc main_arg2) = m ((c.tc : Thread nD τ).loc main_arg2) ∧ s.mem ((c.tc : Thread nD τ).loc main_arg3) = m ((c.tc : Thread nD τ).loc main_arg3) ∧ s.mem ((c.tc : Thread nD τ).loc main_arg4) = m ((c.tc : Thread nD τ).loc main_arg4) ∧ s.mem ((c.tc : Thread nD τ).loc main_arg5) = m ((c.tc : Thread nD τ).loc main_arg5) ∧ s.mem ((c.tc : Thread nD τ).loc main_arg6) = m ((c.tc : Thread nD τ).loc main_arg6) ∧ s.mem ((c.tc : Thread nD τ).loc main_arg7) = m ((c.tc : Thread nD τ).loc main_arg7) ∧ s.mem ((c.tc : Thread nD τ).loc main_arg8) = m ((c.tc : Thread nD τ).loc main_arg8) ∧ s.mem ((c.tc : Thread nD τ).loc main_arg9) = m ((c.tc : Thread nD τ).loc main_arg9)

/-- No argument is written. -/
theorem arg_kept (c : Dev nD) (γ : Gam m T c) (r : Ref sig .tc) (h1 : r ∉ hostOps2_W) (h2 : r ∉ ([main_call0_v1_0, main_call0_v1_1] : List (Ref sig .tc)))
    (h3 : r ∉ ([main_call0_v0_0, main_call0_v0_1] : List (Ref sig .tc))) : StableHlo.after hostOps2 (VG m T c γ) r = m ((c.tc : Thread nD τ).loc r) :=
  (StableHlo.after_of_writes_sub hostOps2 _ hostOps2_writes h1).trans ((W2_of m c _ _ _ _ r h2).trans (W1_of m c _ _ r h3))

set_option backward.isDefEq.respectTransparency.types false in
/-- Every execution of the program ends, in a state as `Post` says, every semaphore counter at zero. -/
theorem run : θ_run defs (onTc (τ := τ) (main (F := F))) ⟨m, fun _ => 0, ρ⟩ (fun r => (∀ c : Dev nD, Post m T c r.2) ∧ r.2.sem = fun _ => 0) := by
  refine Pipeline.RDat.θ_run_regions_kit_sems (pcfgs (F := F)) adm (rdats m T) () cellOf_inj emb₁ defs₀ Variants.none L lv m ρ main (segsR m T)
    (fun c Q => by
      rewrite [main_chain c]
      exact .rfl)
    (show ([0, 1] : List (Fin 2)).Nodup from by decide) (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]; · iapply (show (ownU _ : sProp 𝕄) ⊢ BI.own (emb₁ (initOf (Pipeline.cells cfgs cellOf_inj) (Pipeline.launchToks cfgs cellOf_inj))) from .rfl); iexact Hu
      iapply (show (BI.emp : sProp 𝕄) ⊢ bigSep Finset.univ (fun _ : Dev nD => (BI.emp : sProp 𝕄)) from by rw [BI.bigSep_emp_const])
      iempintro)
    (T₀ := St0 m) (Tₙ := fun c => iprop(∃ γ, StableHlo.held (c : Thread nD τ) (Pipeline.ucRefs τ sig) (StableHlo.after hostOps2 (VG m T c γ))))
    (hch := ⟨fun _ => .rfl, fun _ => .rfl, fun _ => .rfl, fun _ => sep_mono .rfl (by iintro ⟨-, H⟩; iexact H)⟩)
    (hinit := by
      refine Pipeline.initEach L lv fun c => ?_
      rw [show unscopedBufs c (fun b => m ((c : Thread nD τ).loc b)) = StableHlo.held (c : Thread nD τ) (Pipeline.ucRefs τ sig) (V0 m c) from Pipeline.unscopedBufs_held c (V0 m c)]
      iintro ⟨⟨Hh, -, HO, -, Hp, -⟩, -⟩
      imodintro
      isplitl [Hh]; · iexact Hh
      isplitl [Hp]; · iexists _; iexact Hp
      iexists ∅; iexact HO)
    (QY := fun c s => Post m T c s)
    (hfin := fun c s' => ?_) (hQ := fun _ h hz => ⟨h, funext fun g => hz g (.inr (regions_no_unscoped g.2))⟩)
  unfold StableHlo.held
  iintro ⟨⟨%γ, Hh⟩, HSI⟩
  ihave Hr := (pointsTo_read_all (Pipeline.ucRefs τ sig) (fun b => ((c : Thread nD τ).1, b)) (StableHlo.after hostOps2 (VG m T c γ)) s') $$ [Hh HSI]
  · isplitl [Hh] <;> iassumption
  icases Hr with ⟨%h, HSI⟩
  imodintro
  isplitr
  · ipureintro
    have hr : ∀ r : Ref sig .tc, (r.isScoped = false) → s'.mem.mem ((c.tc : Thread nD τ).loc r) = StableHlo.after hostOps2 (VG m T c γ) r := fun r hs =>
      h (Proc.devRef .tc r) (Finset.mem_filter.mpr ⟨StableHlo.devRef_mem_tcRefs r, by rw [Proc.isScoped_devRef]; simp [hs]⟩)
    exact ⟨⟨γ, hr _ rfl, hr _ rfl⟩, (hr main_arg0 rfl).trans (arg_kept m T c γ main_arg0 (by decide) (by decide) (by decide)), (hr main_arg1 rfl).trans (arg_kept m T c γ main_arg1 (by decide) (by decide) (by decide)), (hr main_arg2 rfl).trans (arg_kept m T c γ main_arg2 (by decide) (by decide) (by decide)), (hr main_arg3 rfl).trans (arg_kept m T c γ main_arg3 (by decide) (by decide) (by decide)), (hr main_arg4 rfl).trans (arg_kept m T c γ main_arg4 (by decide) (by decide) (by decide)), (hr main_arg5 rfl).trans (arg_kept m T c γ main_arg5 (by decide) (by decide) (by decide)), (hr main_arg6 rfl).trans (arg_kept m T c γ main_arg6 (by decide) (by decide) (by decide)), (hr main_arg7 rfl).trans (arg_kept m T c γ main_arg7 (by decide) (by decide) (by decide)), (hr main_arg8 rfl).trans (arg_kept m T c γ main_arg8 (by decide) (by decide) (by decide)), (hr main_arg9 rfl).trans (arg_kept m T c γ main_arg9 (by decide) (by decide) (by decide))⟩
  · iexact HSI

/-- The program leaves its arguments as launched and every semaphore counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) ∧ r.2.sem = fun _ => 0) :=
  (θ_run defs _ _).mono (fun _ h => ⟨fun c => (h.1 c).2, h.2⟩) (run m ρ (Track.none m))

end Cert.KernelIdeal.Run

end
-- ==== Proof.NetStep.lean ====
/-
  One exchange of the compare-and-exchange network, read on a row.

  The program sorts the 512 rows of a block side by side. A row is a vector of scores with their block numbers; its
  key at a lane is the score, and among equal scores the smaller block number is the greater key.
-/
module

public import Idealize.ShloMosaic.Lib.Pointwise
public import Idealize.ShloMosaic.Lib.KernelVsHost
public import Idealize.ShloMosaic.Lib.SortNet.Fold

@[expose] public section

namespace Cert.Value

open Idealize.ShloMosaic Idealize.ShloMosaic.SortNet

/-- 512 rows of `n` lanes. -/
abbrev T (n : Nat) : Shape := ⟨2, ![512, n]⟩

/-- A square of `n` rows and lanes. -/
abbrev Q (n : Nat) : Shape := ⟨2, ![n, n]⟩

/-- The sort key: the score, then the block number reversed. -/
abbrev Key : Type := EReal ×ₗ ERealᵒᵈ

/-- A score and a block number as a key. -/
def mk (v x : EReal) : Key := toLex (v, OrderDual.toDual x)

theorem mk_lt (a b x y : EReal) : mk a x < mk b y ↔ a < b ∨ a = b ∧ y < x := by
  unfold mk
  rw [Prod.Lex.toLex_lt_toLex]
  rfl

/-- The scores and the block numbers of a block of rows. -/
abbrev Pair (n : Nat) : Type := FVec Ideal (T n) .f32 × FVec Ideal (T n) .bf16

/-- The keys of row `r`. -/
def keyRow {n p : Nat} (hn : n = 2 ^ p) (S : Pair n) (r : Fin 512) : Fin (2 ^ p) → Key :=
  fun l => mk (S.1 (ix2 r (l.cast hn.symm))) (S.2 (ix2 r (l.cast hn.symm)))

/-- One exchange: every lane meets the lane `d` away, below it where `bit` is set and above it where it is not, and keeps
    the better of the two exactly where `flip` is not set. -/
noncomputable def bst {n : Nat} (hr : (T n).Rotates 1 none) (D : DotDims (T n) (Q n) (T n)) (d nd : BitVec 32)
    (bit flip : IVec (T n) 1) (P : FVec Ideal (Q n) .bf16) (S : Pair n) : Pair n :=
  let pv : FVec Ideal (T n) .f32 := select bit (dynamicRotate 1 d none S.1 hr) (dynamicRotate 1 nd none S.1 hr)
  let px : FVec Ideal (T n) .bf16 := truncf .bf16 (matmul D none S.2 P (constant (T n) .f32 0x00000000#32)) (by decide)
  let take : IVec (T n) 1 := xori (ori (cmpf .ogt S.1 pv) (andi (cmpf .oeq S.1 pv) (cmpf .olt S.2 px))) flip
  (select take S.1 pv, select take S.2 px)

/-- A product with a square reads as the sum over the lanes. -/
def Plain {n : Nat} (D : DotDims (T n) (Q n) (T n)) : Prop :=
  ∀ (x : FVec Ideal (T n) .bf16) (P : FVec Ideal (Q n) .bf16) (r : Fin 512) (l : Fin n),
    (matmul D none x P (constant (T n) .f32 0x00000000#32) : FVec Ideal (T n) .f32) (ix2 r l)
      = ∑ k : Fin n, x (ix2 r k) * P (ix2 k l)

theorem rot_row {n : Nat} (hr : (T n).Rotates 1 none) (d : BitVec 32) (x : (T n).Idx → EReal) (r : Fin 512) (l k : Fin n)
    (hk : k.val = (l.val + n - d.toNat % n) % n) : dynamicRotate 1 d none x hr (ix2 r l) = x (ix2 r k) := by
  refine dynamicRotate_apply (1 : Fin 2) d x hr _ _ fun b => ?_
  fin_cases b
  · rfl
  · exact hk

/-- The sum against the square that pairs the lanes `2 ^ s` apart is the partner's entry. -/
theorem sum_partner {n p s : Nat} (hn : n = 2 ^ p) (hs : s < p) (x : Fin n → EReal) (P : Fin n → Fin n → EReal)
    (hP : ∀ k l, P k l = if k.val ^^^ l.val = 2 ^ s then 1 else 0) (j : Fin (2 ^ p)) :
    ∑ k : Fin n, x k * P k (j.cast hn.symm) = x ((partner p s j).cast hn.symm) := by
  rw [Finset.sum_eq_single ((partner p s j).cast hn.symm)]
  · rw [hP, if_pos, mul_one]
    show (partner p s j).val ^^^ j.val = _
    rw [partner_val hs, Nat.xor_comm j.val, Nat.xor_assoc, Nat.xor_self, Nat.xor_zero]
  · intro k _ hk
    rw [hP, if_neg, mul_zero]
    intro h
    apply hk
    apply Fin.ext
    show k.val = (partner p s j).val
    rw [partner_val hs, ← h]
    show k.val = j.val ^^^ (k.val ^^^ j.val)
    rw [Nat.xor_comm k.val, ← Nat.xor_assoc, Nat.xor_self, Nat.zero_xor]
  · intro h
    exact absurd (Finset.mem_univ _) h

/-- Keeping by the two comparisons is keeping the greater key, or the lesser where `f` is set. -/
theorem keep_greater (a x b y : EReal) (f : Bool) (t : BitVec 1)
    (ht : t = ((Ideal.cmp .ogt a b ||| (Ideal.cmp .oeq a b &&& Ideal.cmp .olt x y)) ^^^ BitVec.ofBool f)) :
    mk (Scalar.select t a b) (Scalar.select t x y)
      = if decide (mk b y < mk a x) = !f then mk a x else mk b y := by
  have hk : (Ideal.cmp .ogt a b ||| (Ideal.cmp .oeq a b &&& Ideal.cmp .olt x y)) = BitVec.ofBool (decide (mk b y < mk a x)) := by
    have e : decide (mk b y < mk a x) = (decide (b < a) || (decide (a = b) && decide (x < y))) := by
      rw [← Bool.decide_and, ← Bool.decide_or]
      refine decide_eq_decide.mpr ((mk_lt b a y x).trans ?_)
      rw [eq_comm (a := b)]
    rw [e]
    simp only [Ideal.cmp]
    cases decide (b < a) <;> cases decide (a = b) <;> cases decide (x < y) <;> rfl
  rw [ht, hk]
  cases decide (mk b y < mk a x) <;> cases f <;> rfl

theorem partner_flips {p s : Nat} (hs : s < p) (j : Fin (2 ^ p)) :
    ((partner p s j).val &&& 2 ^ s = 0) ↔ ¬ (j.val &&& 2 ^ s = 0) := by
  rw [and_two_pow_eq_zero_iff_testBit, and_two_pow_eq_zero_iff_testBit, partner_val hs, Nat.testBit_xor,
    Nat.testBit_two_pow_self]
  cases j.val.testBit s <;> simp

theorem keyRow_bst {n p s : Nat} (hn : n = 2 ^ p) (hs : s < p) (hr : (T n).Rotates 1 none)
    (D : DotDims (T n) (Q n) (T n)) (hD : Plain D) (d nd : BitVec 32) (bit flip : IVec (T n) 1)
    (P : FVec Ideal (Q n) .bf16) (S : Pair n) (w : Fin (2 ^ p) → Bool) (hw : ∀ j, w (partner p s j) = w j)
    (hd : d.toNat = 2 ^ s) (hnd : nd.toNat = n - 2 ^ s)
    (hbit : ∀ r l, bit (ix2 r l) = BitVec.ofBool (decide (l.val &&& 2 ^ s ≠ 0)))
    (hflip : ∀ r (l : Fin n), flip (ix2 r l) = BitVec.ofBool (decide (l.val &&& 2 ^ s ≠ 0) == w (l.cast hn)))
    (hP : ∀ k l : Fin n, P (ix2 k l) = if k.val ^^^ l.val = 2 ^ s then (1 : EReal) else 0) (r : Fin 512) :
    keyRow hn (bst hr D d nd bit flip P S) r = Network.apply (stage p s w) (keyRow hn S r) := by
  have hkeep : ∀ j : Fin (2 ^ p), (fun j : Fin (2 ^ p) => decide (j.val &&& 2 ^ s ≠ 0) != w j) (partner p s j)
      = !(fun j : Fin (2 ^ p) => decide (j.val &&& 2 ^ s ≠ 0) != w j) j := by
    intro j
    have := partner_flips hs j
    simp only [hw]
    by_cases h : j.val &&& 2 ^ s = 0 <;> simp [h, this]
  rw [stage_congr (w' := fun j : Fin (2 ^ p) => decide (j.val &&& 2 ^ s ≠ 0) != w j) (by intro i hi; simp [hi])]
  funext j
  rw [apply_stage_select hs _ hkeep]
  set l : Fin n := j.cast hn.symm with hl
  set q : Fin n := (partner p s j).cast hn.symm with hq
  have hps : 2 ^ s < n := hn ▸ Nat.pow_lt_pow_right (by decide) hs
  have hsel : (select bit (dynamicRotate 1 d none S.1 hr) (dynamicRotate 1 nd none S.1 hr) : FVec Ideal (T n) .f32) (ix2 r l)
      = S.1 (ix2 r q) := by
    rw [ValueIdx.select_apply, hbit]
    have hlv : l.val = j.val := rfl
    have hqv : q.val = (partner p s j).val := rfl
    by_cases h : j.val &&& 2 ^ s = 0
    · rw [show (decide (l.val &&& 2 ^ s ≠ 0)) = false by simp [hlv, h]]
      have := partner_val_of_clear hs j h
      refine rot_row hr nd S.1 r l q ?_
      rw [hnd, hqv, this, hlv, Nat.mod_eq_of_lt (a := n - 2 ^ s) (by have := Nat.two_pow_pos s; omega)]
      have := (partner p s j).isLt
      rw [show j.val + n - (n - 2 ^ s) = j.val + 2 ^ s by omega, Nat.mod_eq_of_lt (by omega)]
    · rw [show (decide (l.val &&& 2 ^ s ≠ 0)) = true by simp [hlv, h]]
      obtain ⟨h1, h2⟩ := partner_val_of_set hs j h
      refine rot_row hr d S.1 r l q ?_
      rw [hd, hqv, h2, hlv, Nat.mod_eq_of_lt (a := 2 ^ s) hps]
      have := j.isLt
      rw [show j.val + n - 2 ^ s = (j.val - 2 ^ s) + n by omega, Nat.add_mod_right, Nat.mod_eq_of_lt (by omega)]
  have hmm : (truncf .bf16 (matmul D none S.2 P (constant (T n) .f32 0x00000000#32)) (by decide) : FVec Ideal (T n) .bf16) (ix2 r l)
      = S.2 (ix2 r q) :=
    (hD S.2 P r l).trans (sum_partner hn hs (fun k => S.2 (ix2 r k)) (fun k l => P (ix2 k l)) hP j)
  have ha : (if decide (keyRow hn S r (partner p s j) < keyRow hn S r j) = (decide (j.val &&& 2 ^ s ≠ 0) != w j)
      then keyRow hn S r j else keyRow hn S r (partner p s j))
      = if decide (mk (S.1 (ix2 r q)) (S.2 (ix2 r q)) < mk (S.1 (ix2 r l)) (S.2 (ix2 r l)))
          = !(decide (l.val &&& 2 ^ s ≠ 0) == w (l.cast hn)) then mk (S.1 (ix2 r l)) (S.2 (ix2 r l))
        else mk (S.1 (ix2 r q)) (S.2 (ix2 r q)) := rfl
  refine Eq.trans ?_ ha.symm
  rw [← keep_greater (S.1 (ix2 r l)) (S.2 (ix2 r l)) (S.1 (ix2 r q)) (S.2 (ix2 r q)) _ _ rfl, ← hflip r l, ← hsel, ← hmm]
  rfl

end Cert.Value
-- ==== Proof.NetPure.lean ====
/-
  The two networks as selections: the 64 lanes they leave are the 64 greatest keys of the row, in order.
-/
module

public import Idealize.ShloMosaic.Lib.SortNet.Fold

@[expose] public section

namespace Cert.Value

open Idealize.ShloMosaic Idealize.ShloMosaic.SortNet

variable {α : Type} [LinearOrder α]

/-- Chunk `c`, of 64 lanes. -/
def chunk {p : Nat} (hp : 6 ≤ p) (K : Fin (2 ^ p) → α) (c : Fin (2 ^ (p - 6))) (j : Fin (2 ^ 6)) : α := K (chunkPos hp c j)

theorem ofFn_two_iff {β : Type} (f : Fin 2 → List β) : (List.ofFn f).flatten = f 0 ++ f 1 := by
  simp [List.ofFn_succ]

theorem ofFn_four_iff {β : Type} (f : Fin 4 → List β) : (List.ofFn f).flatten = f 0 ++ f 1 ++ (f 2 ++ f 3) := by
  simp [List.ofFn_succ]

/-- A row of 128 lanes, chunk after chunk. -/
theorem ofFn_two (K : Fin (2 ^ 7) → α) :
    List.ofFn K = List.ofFn (chunk (by decide) K ⟨0, by decide⟩) ++ List.ofFn (chunk (by decide) K ⟨1, by decide⟩) :=
  (List.ofFn_mul (m := 2) (n := 64) K).trans (ofFn_two_iff _)

/-- A row of 256 lanes, chunk after chunk. -/
theorem ofFn_four (K : Fin (2 ^ 8) → α) :
    List.ofFn K = (List.ofFn (chunk (by decide) K ⟨0, by decide⟩) ++ List.ofFn (chunk (by decide) K ⟨1, by decide⟩))
      ++ (List.ofFn (chunk (by decide) K ⟨2, by decide⟩) ++ List.ofFn (chunk (by decide) K ⟨3, by decide⟩)) :=
  (List.ofFn_mul (m := 4) (n := 64) K).trans (ofFn_four_iff _)

/-- What a network leaves has the same greatest entries. -/
theorem topList_apply {n : Nat} (N : Network n) (K : Fin n → α) (k : Nat) :
    topList k (List.ofFn (Network.apply N K)) = topList k (List.ofFn K) := by
  obtain ⟨σ, h⟩ := Network.exists_perm N K
  rw [h]
  exact topList_perm (Equiv.Perm.ofFn_comp_perm σ K)

/-- The levels leave the even chunks descending and the odd chunks ascending. -/
theorem levels_even {p : Nat} (hp : 6 ≤ p) (K : Fin (2 ^ p) → α) (c : Fin (2 ^ (p - 6))) (hc : c.val % 2 = 0) :
    Antitone (chunk hp (Network.apply (levelsNet p true 6) K) c) :=
  (sortNet_levels p true K 6 hp c).1 (by rw [hc]; rfl)

theorem levels_odd {p : Nat} (hp : 6 ≤ p) (K : Fin (2 ^ p) → α) (c : Fin (2 ^ (p - 6))) (hc : c.val % 2 = 1) :
    Monotone (chunk hp (Network.apply (levelsNet p true 6) K) c) :=
  (sortNet_levels p true K 6 hp c).2 (by rw [hc]; rfl)

/-- Every lane against the lane 64 further on, around the end. -/
def maxHalf {p : Nat} (K : Fin (2 ^ p) → α) (j : Fin (2 ^ p)) : α :=
  max (K j) (K ⟨(j.val + 64) % 2 ^ p, Nat.mod_lt _ (Nat.two_pow_pos p)⟩)

theorem chunk_maxHalf {p : Nat} (hp : 6 ≤ p) (K : Fin (2 ^ p) → α) (c d : Fin (2 ^ (p - 6))) (hd : d.val = c.val + 1) :
    chunk hp (maxHalf K) c = fun j => max (chunk hp K c j) (chunk hp K d j) := by
  funext j
  unfold chunk maxHalf
  congr 2
  apply Fin.ext
  have h := (chunkPos hp d j).isLt
  have e : (chunkPos hp d j).val = d.val * 2 ^ 6 + j.val := rfl
  have e' : (chunkPos hp c j).val = c.val * 2 ^ 6 + j.val := rfl
  show ((chunkPos hp c j).val + 64) % 2 ^ p = (chunkPos hp d j).val
  rw [Nat.mod_eq_of_lt] <;> omega

/-- The descending merge of every chunk of 64 lanes. -/
def mergeChunks (p : Nat) : Network (2 ^ p) := (List.range 6).reverse.flatMap fun s => stage p s fun _ => true

/-- 128 lanes: the first chunk of the result is the 64 greatest. -/
theorem net128 (K : Fin (2 ^ 7) → α) :
    List.ofFn (chunk (by decide) (Network.apply (mergeChunks 7) (maxHalf (Network.apply (levelsNet 7 true 6) K))) ⟨0, by decide⟩)
      = topList 64 (List.ofFn K) := by
  rw [← topList_apply (levelsNet 7 true 6) K 64]
  set A := Network.apply (levelsNet 7 true 6) K with hA
  have h := (foldStep 6 (chunk (by decide) A ⟨0, by decide⟩) (chunk (by decide) A ⟨1, by decide⟩)
    (levels_even _ K _ rfl) (levels_odd _ K _ rfl)).2
  rw [ofFn_two A]
  refine Eq.trans (congrArg List.ofFn (funext fun j => ?_)) h
  refine (apply_flatMap_stage_chunk (by decide) (List.range 6).reverse (by simp) (fun _ => true) (fun _ => true)
    (fun _ _ => rfl) (maxHalf A) ⟨0, by decide⟩ j).trans ?_
  exact congrFun (congrArg (Network.apply (mergeDescNet 6)) (chunk_maxHalf (by decide) A ⟨0, by decide⟩ ⟨1, by decide⟩ rfl)) j

/-- The first and the third chunk of 256 lanes, side by side. -/
def pick (K : Fin (2 ^ 8) → α) (j : Fin (2 ^ 7)) : α :=
  K ⟨if j.val < 64 then j.val else j.val + 64, by have := j.isLt; split <;> omega⟩

theorem chunk_pick0 (K : Fin (2 ^ 8) → α) : chunk (by decide) (pick K) ⟨0, by decide⟩ = chunk (by decide) K ⟨0, by decide⟩ := by
  funext j
  unfold chunk pick
  congr 1
  apply Fin.ext
  have e : (chunkPos (P := 7) (p := 6) (by decide) ⟨0, by decide⟩ j).val = 0 * 2 ^ 6 + j.val := rfl
  have e' : (chunkPos (P := 8) (p := 6) (by decide) ⟨0, by decide⟩ j).val = 0 * 2 ^ 6 + j.val := rfl
  have := j.isLt
  simp only [e, e']
  split <;> omega

theorem chunk_pick1 (K : Fin (2 ^ 8) → α) : chunk (by decide) (pick K) ⟨1, by decide⟩ = chunk (by decide) K ⟨2, by decide⟩ := by
  funext j
  unfold chunk pick
  congr 1
  apply Fin.ext
  have e : (chunkPos (P := 7) (p := 6) (by decide) ⟨1, by decide⟩ j).val = 1 * 2 ^ 6 + j.val := rfl
  have e' : (chunkPos (P := 8) (p := 6) (by decide) ⟨2, by decide⟩ j).val = 2 * 2 ^ 6 + j.val := rfl
  have := j.isLt
  simp only [e, e']
  split <;> omega

/-- The first entries of a descending row are its greatest. -/
theorem antitone_take (k : Nat) {n : Nat} (B : Fin n → α) (h : Antitone B) : List.take k (List.ofFn B) = topList k (List.ofFn B) := by
  have hp : (List.ofFn B).Pairwise (· ≥ ·) := List.pairwise_ofFn.mpr fun i j hij => h (le_of_lt hij)
  have e := topList_eq_self (k := (List.ofFn B).length) hp le_rfl
  unfold topList at e ⊢
  rw [List.take_of_length_le (by rw [List.length_insertionSort])] at e
  rw [e]

/-- A descending chunk before an ascending one. -/
theorem desc_then_asc (X : Fin (2 ^ 7) → α) (h0 : Antitone (chunk (by decide) X ⟨0, by decide⟩))
    (h1 : Monotone (chunk (by decide) X ⟨1, by decide⟩)) : DescAsc X := by
  refine ⟨64, Or.inl ⟨fun i j hij hj => ?_, fun i j hij hi => ?_⟩⟩
  · have hij' : i.val ≤ j.val := hij
    have := h0 (a := ⟨i.val, by omega⟩) (b := ⟨j.val, by omega⟩) hij'
    unfold chunk at this
    have e : ∀ (x : Fin (2 ^ 7)) (hx : x.val < 2 ^ 6), chunkPos (P := 7) (p := 6) (by decide) ⟨0, by decide⟩ ⟨x.val, hx⟩ = x :=
      fun x hx => Fin.ext (show 0 * 2 ^ 6 + x.val = x.val by omega)
    rwa [e, e] at this
  · have hij' : i.val ≤ j.val := hij
    have hi2 := i.isLt
    have hj2 := j.isLt
    have := h1 (a := ⟨i.val - 64, by omega⟩) (b := ⟨j.val - 64, by omega⟩) (by show i.val - 64 ≤ j.val - 64; omega)
    unfold chunk at this
    have e : ∀ (x : Fin (2 ^ 7)) (hx : x.val - 64 < 2 ^ 6) (h : 64 ≤ x.val),
        chunkPos (P := 7) (p := 6) (by decide) ⟨1, by decide⟩ ⟨x.val - 64, hx⟩ = x :=
      fun x hx h => Fin.ext (show 1 * 2 ^ 6 + (x.val - 64) = x.val by omega)
    rwa [e _ _ (by omega), e _ _ (by omega)] at this

/-- 256 lanes: the first 64 lanes of the result are the 64 greatest. -/
theorem net256 (K : Fin (2 ^ 8) → α) :
    List.take 64 (List.ofFn (Network.apply (mergeDescNet 7) (Network.apply (levelNet 7 true 5)
        (pick (maxHalf (Network.apply (levelsNet 8 true 6) K))))))
      = topList 64 (List.ofFn K) := by
  rw [← topList_apply (levelsNet 8 true 6) K 64]
  set A := Network.apply (levelsNet 8 true 6) K with hA
  set M := maxHalf A with hM
  have m0 : chunk (by decide) (pick M) ⟨0, by decide⟩ = fun j => max (chunk (by decide) A ⟨0, by decide⟩ j) (chunk (by decide) A ⟨1, by decide⟩ j) :=
    (chunk_pick0 M).trans (chunk_maxHalf (by decide) A ⟨0, by decide⟩ ⟨1, by decide⟩ rfl)
  have m1 : chunk (by decide) (pick M) ⟨1, by decide⟩ = fun j => max (chunk (by decide) A ⟨2, by decide⟩ j) (chunk (by decide) A ⟨3, by decide⟩ j) :=
    (chunk_pick1 M).trans (chunk_maxHalf (by decide) A ⟨2, by decide⟩ ⟨3, by decide⟩ rfl)
  have f0 := foldStep 6 (chunk (by decide) A ⟨0, by decide⟩) (chunk (by decide) A ⟨1, by decide⟩)
    (levels_even _ K _ rfl) (levels_odd _ K _ rfl)
  have f1 := foldStep 6 (chunk (by decide) A ⟨2, by decide⟩) (chunk (by decide) A ⟨3, by decide⟩)
    (levels_even _ K _ rfl) (levels_odd _ K _ rfl)
  have d1 := descAsc_max (chunk (by decide) A ⟨2, by decide⟩) (chunk (by decide) A ⟨3, by decide⟩)
    (levels_even _ K _ rfl) (levels_odd _ K _ rfl)
  rw [← m0] at f0
  rw [← m1] at f1 d1
  set X := Network.apply (levelNet 7 true 5) (pick M) with hX
  have x0 : chunk (by decide) X ⟨0, by decide⟩ = Network.apply (mergeDescNet 6) (chunk (by decide) (pick M) ⟨0, by decide⟩) :=
    funext fun j => apply_levelNet_chunkPos (p := 7) (l := 5) (by decide) true (pick M) ⟨0, by decide⟩ j
  have x1 : chunk (by decide) X ⟨1, by decide⟩ = Network.apply (mergeAscNet 6) (chunk (by decide) (pick M) ⟨1, by decide⟩) :=
    funext fun j => apply_levelNet_chunkPos (p := 7) (l := 5) (by decide) true (pick M) ⟨1, by decide⟩ j
  have hda : DescAsc X := desc_then_asc X (x0 ▸ f0.1) (x1 ▸ mergeAscNet_apply_monotone 6 _ d1)
  have g0 : List.ofFn (Network.apply (mergeDescNet 6) (chunk (by decide) (pick M) ⟨0, by decide⟩)) = topList 64 _ := f0.2
  have g1 : List.ofFn (Network.apply (mergeDescNet 6) (chunk (by decide) (pick M) ⟨1, by decide⟩)) = topList 64 _ := f1.2
  rw [antitone_take 64 _ (mergeDescNet_apply_antitone 7 X hda), topList_apply, ofFn_two X, x0, x1, g0,
    ← topList_append_topList_topList, topList_topList, topList_apply (mergeAscNet 6),
    ← topList_apply (mergeDescNet 6) (chunk (by decide) (pick M) ⟨1, by decide⟩), g1, topList_topList,
    topList_append_topList_topList, ofFn_four A]

end Cert.Value
-- ==== Proof.NetRun.lean ====
/-
  The two bodies' networks as chains of exchanges.
-/
module

public import proofs.«01_k».proof.Proof.KiNet
public import proofs.«01_k».proof.Proof.NetStep
public import proofs.«01_k».proof.Proof.NetPure

@[expose] public section

set_option maxRecDepth 65536

noncomputable section

namespace Cert.Value

open Idealize.ShloMosaic Idealize.ShloMosaic.SortNet
open Cert.KernelIdeal Cert.KernelIdeal.Gen Cert.KernelIdeal.Run

/-- What the exchanges of `n` lanes are built from: the lanes' bits, the lanes outside a level's ascending half, and the squares that pair
    the lanes. -/
structure Lanes (n : Nat) where
  hr : (T n).Rotates 1 none
  D : DotDims (T n) (Q n) (T n)
  bit : Nat → IVec (T n) 1
  km : Nat → IVec (T n) 1
  perm : Nat → FVec Ideal (Q n) .bf16

/-- Level `e.1`'s exchange at distance `2 ^ e.2`. -/
def lv {n : Nat} (L : Lanes n) (S : Pair n) (e : Nat × Nat) : Pair n :=
  bst L.hr L.D (BitVec.ofNat 32 (2 ^ e.2)) (BitVec.ofNat 32 (n - 2 ^ e.2)) (L.bit e.2)
    (xori (xori (L.bit e.2) (L.km e.1)) (constantI (T n) 1 1#1)) (L.perm e.2) S

/-- The descending merge's exchange at distance `2 ^ s`. -/
def mg {n : Nat} (L : Lanes n) (S : Pair n) (s : Nat) : Pair n :=
  bst L.hr L.D (BitVec.ofNat 32 (2 ^ s)) (BitVec.ofNat 32 (n - 2 ^ s)) (L.bit s) (L.bit s) (L.perm s) S

/-- Every lane with the lane a rotation brings to it, the greater key of the two. -/
def mx {n : Nat} (hr : (T n).Rotates 1 none) (d : BitVec 32) (S : Pair n) : Pair n :=
  let pv : FVec Ideal (T n) .f32 := dynamicRotate 1 d none S.1 hr
  let px : FVec Ideal (T n) .bf16 := dynamicRotate 1 d none S.2 hr
  let take : IVec (T n) 1 := ori (cmpf .ogt S.1 pv) (andi (cmpf .oeq S.1 pv) (cmpf .olt S.2 px))
  (select take S.1 pv, select take S.2 px)

/-- The first and the third 64 lanes of 256, side by side. -/
def pk (S : Pair 256) : Pair 128 :=
  let lo : IVec S512x256 1 := cmpi .slt (iota .tc S512x256 32 [1] iota_S512x256_d1_w32) (broadcast S512x256 64#32)
  (extractStridedSlice S512x128 ![0, 0] (select lo S.1 (dynamicRotate 1 192#32 none S.1 rotates_S512x256_d1)) slices_S512x256_o0_0_S512x128,
    extractStridedSlice S512x128 ![0, 0] (select lo S.2 (dynamicRotate 1 192#32 none S.2 rotates_S512x256_d1)) slices_S512x256_o0_0_S512x128)

/-- Lane bit `m` of 128 lanes. -/
def bit128 (m : Nat) : IVec S512x128 1 :=
  cmpi .ne (andi (iota .tc S512x128 32 [1] iota_S512x128_d1_w32) (broadcast S512x128 (BitVec.ofNat 32 (2 ^ m)))) (broadcast S512x128 0#32)

def clr128 (l : Nat) : IVec S512x128 1 :=
  cmpi .eq (andi (iota .tc S512x128 32 [1] iota_S512x128_d1_w32) (broadcast S512x128 (BitVec.ofNat 32 (2 ^ (l + 1))))) (broadcast S512x128 0#32)

def perm128 (s : Nat) : FVec Ideal S128x128 .bf16 :=
  truncf .bf16 (sitofp .f32 (extui 32 (cmpi .eq (xori (iota .tc S128x128 32 [0] iota_S128x128_d0_w32) (iota .tc S128x128 32 [1] iota_S128x128_d1_w32))
    (broadcast S128x128 (BitVec.ofNat 32 (2 ^ s)))) natLt_1_32)) bitsLt_bf16_f32

/-- The same of 256 lanes. -/
def bit256 (m : Nat) : IVec S512x256 1 :=
  cmpi .ne (andi (iota .tc S512x256 32 [1] iota_S512x256_d1_w32) (broadcast S512x256 (BitVec.ofNat 32 (2 ^ m)))) (broadcast S512x256 0#32)

def clr256 (l : Nat) : IVec S512x256 1 :=
  cmpi .eq (andi (iota .tc S512x256 32 [1] iota_S512x256_d1_w32) (broadcast S512x256 (BitVec.ofNat 32 (2 ^ (l + 1))))) (broadcast S512x256 0#32)

def perm256 (s : Nat) : FVec Ideal S256x256 .bf16 :=
  truncf .bf16 (sitofp .f32 (extui 32 (cmpi .eq (xori (iota .tc S256x256 32 [0] iota_S256x256_d0_w32) (iota .tc S256x256 32 [1] iota_S256x256_d1_w32))
    (broadcast S256x256 (BitVec.ofNat 32 (2 ^ s)))) natLt_1_32)) bitsLt_bf16_f32

/-- The first 128 of 256 lanes' bits. -/
def half (m : Nat) : IVec S512x128 1 := extractStridedSlice S512x128 ![0, 0] (bit256 m) slices_S512x256_o0_0_S512x128

def halfClr (l : Nat) : IVec S512x128 1 :=
  cmpi .eq (andi (extractStridedSlice S512x128 ![0, 0] (iota .tc S512x256 32 [1] iota_S512x256_d1_w32) slices_S512x256_o0_0_S512x128)
    (broadcast S512x128 (BitVec.ofNat 32 (2 ^ (l + 1))))) (broadcast S512x128 0#32)

abbrev L128 : Lanes 128 := ⟨rotates_S512x128_d1, dot_S512x128_S128x128_S512x128_1_0_0_1_n_n, bit128, clr128, perm128⟩
abbrev L256 : Lanes 256 := ⟨rotates_S512x256_d1, dot_S512x256_S256x256_S512x256_1_0_0_1_n_n, bit256, clr256, perm256⟩
abbrev LH : Lanes 128 := ⟨rotates_S512x128_d1, dot_S512x128_S128x128_S512x128_1_0_0_1_n_n, half, halfClr, perm128⟩

/-- The levels' exchanges in order. -/
def steps : List (Nat × Nat) := (List.range 6).flatMap fun l => (List.range (l + 1)).reverse.map fun s => (l, s)

/-- What a row leaves: the block number where the score counts, else -1. -/
def outs (S : Pair 128) : IVec S512x64 32 :=
  select (cmpf .ogt (extractStridedSlice S512x64 ![0, 0] S.1 slices_S512x128_o0_0_S512x64)
      (broadcast S512x64 (Scalar.ofBits (F := Ideal) .f32 0xFF800000#32)))
    (fptosi 32 (extractStridedSlice S512x64 ![0, 0] S.2 slices_S512x128_o0_0_S512x64)) (broadcast S512x64 4294967295#32)

/-- Call 0's masked scores. -/
def sc0 (arg1 : BitVec 32) (v34 : FVec Ideal S512x1024 .f32) (v36 : FVec Ideal S512x16 .f32) (v37 : Vec Ideal S128x64 .f32)
    (v70 v74 : FVec Ideal S512x128 .f32) : FVec Ideal S512x128 .f32 :=
  k0_pay15 (k0_pay13 v34 v36 v37 (k0_pay11 v34 v36 v37 v70 v74) (k0_pay12 v34 v37)) (iota .tc S512x128 32 [0] iota_S512x128_d0_w32) (k0_pay14 arg1)

/-- A row of 128 scores with the lanes' numbers, sorted. -/
def net0 (v : FVec Ideal S512x128 .f32) : Pair 128 :=
  [5, 4, 3, 2, 1, 0].foldl (mg L128) (mx rotates_S512x128_d1 64#32
    (steps.foldl (lv L128) (v, sitofp .bf16 (iota .tc S512x128 32 [1] iota_S512x128_d1_w32))))

theorem net0_split (v : FVec Ideal S512x128 .f32) :
    net0 v = [5, 4, 3, 2, 1, 0].foldl (mg L128) (mx rotates_S512x128_d1 64#32
      ([(5, 3), (5, 2), (5, 1), (5, 0)].foldl (lv L128) ([(4, 0), (5, 5), (5, 4)].foldl (lv L128)
        ([(4, 3), (4, 2), (4, 1)].foldl (lv L128) ([(3, 1), (3, 0), (4, 4)].foldl (lv L128) ([(2, 0), (3, 3), (3, 2)].foldl (lv L128)
          ([(1, 0), (2, 2), (2, 1)].foldl (lv L128) ([(0, 0), (1, 1)].foldl (lv L128)
            (v, sitofp .bf16 (iota .tc S512x128 32 [1] iota_S512x128_d1_w32)))))))))) := rfl

theorem tail0_eq (arg1 : BitVec 32) (v34 : FVec Ideal S512x1024 .f32) (v36 : FVec Ideal S512x16 .f32) (v37 : Vec Ideal S128x64 .f32)
    (v70 v74 : FVec Ideal S512x128 .f32) :
    tail0 arg1 v34 v36 v37 v70 v74 = outs (net0 (sc0 arg1 v34 v36 v37 v70 v74)) := by
  unfold tail0
  extract_lets v118 v122 v169 v166 v170 v180 v179 v184 v188 v192 v196 v200 v204 v208 v210 v211 v212 v216 v220 v224 v228 v236 v244 v252 v259
    cst_92 v260 v268 v276 v306 v307 v308 v351 v352 v354 v355 v396 v397 v399 v402 v441 v442 v444 v447 v449 v486 v487 v489 v492 v494 v495 v496
    v497 v531 v532 v537 v539 v545 v591 v592 c64_i32_164 v639 v640 v641
  have hs : sc0 arg1 v34 v36 v37 v70 v74 = v179 := rfl
  have h1 : [(0, 0), (1, 1)].foldl (lv L128) (v179, sitofp .bf16 (iota .tc S512x128 32 [1] iota_S512x128_d1_w32)) = (v306, v307) := rfl
  have h2 : [(1, 0), (2, 2), (2, 1)].foldl (lv L128) (v306, v307) = (v351, v352) := rfl
  have h3 : [(2, 0), (3, 3), (3, 2)].foldl (lv L128) (v351, v352) = (v396, v397) := rfl
  have h4 : [(3, 1), (3, 0), (4, 4)].foldl (lv L128) (v396, v397) = (v441, v442) := rfl
  have h5 : [(4, 3), (4, 2), (4, 1)].foldl (lv L128) (v441, v442) = (v486, v487) := rfl
  have h6 : [(4, 0), (5, 5), (5, 4)].foldl (lv L128) (v486, v487) = (v531, v532) := rfl
  have h7 : [(5, 3), (5, 2), (5, 1), (5, 0)].foldl (lv L128) (v531, v532) = (v591, v592) := rfl
  have h8 : [5, 4, 3].foldl (mg L128) (mx rotates_S512x128_d1 64#32 (v591, v592)) = (v639, v640) := rfl
  have h9 : k0_pay173 v184 v188 v192 v236 v244 v252 v639 v640 v641 = outs ([2, 1, 0].foldl (mg L128) (v639, v640)) := rfl
  rw [net0_split, hs, h1, h2, h3, h4, h5, h6, h7, h9, ← h8]
  rfl

/-- Call 1's masked scores. -/
def sc1 (arg1 : BitVec 32) (v38 : FVec Ideal S512x1024 .f32) (v40 : FVec Ideal S512x16 .f32) (v41 : Vec Ideal S256x64 .f32)
    (v66 v70 v72 : FVec Ideal S512x256 .f32) : FVec Ideal S512x256 .f32 :=
  k1_pay18 arg1 (k1_pay15 v38 v40 v41 (k1_pay12 v38 v40 v41 v66 v70 v72) (k1_pay13 v38 v41) (k1_pay14 v40)) (k1_pay16 v38 v41) (k1_pay17 v40)

/-- A row of 256 scores with the lanes' numbers, cut to 128 and sorted. -/
def net1 (v : FVec Ideal S512x256 .f32) : Pair 128 :=
  [6, 5, 4, 3, 2, 1, 0].foldl (mg LH) ([(5, 5), (5, 4), (5, 3), (5, 2), (5, 1), (5, 0)].foldl (lv LH) (pk (mx rotates_S512x256_d1 192#32
    (steps.foldl (lv L256) (v, sitofp .bf16 (iota .tc S512x256 32 [1] iota_S512x256_d1_w32))))))

theorem net1_split (v : FVec Ideal S512x256 .f32) :
    net1 v = [2, 1, 0].foldl (mg LH) ([6, 5, 4, 3].foldl (mg LH) ([(5, 2), (5, 1), (5, 0)].foldl (lv LH)
      ([(5, 5), (5, 4), (5, 3)].foldl (lv LH) (pk (mx rotates_S512x256_d1 192#32 ([(5, 1), (5, 0)].foldl (lv L256)
        ([(5, 4), (5, 3), (5, 2)].foldl (lv L256) ([(4, 1), (4, 0), (5, 5)].foldl (lv L256)
          ([(3, 3), (3, 2), (3, 1), (3, 0), (4, 4), (4, 3), (4, 2)].foldl (lv L256) ([(2, 2), (2, 1), (2, 0)].foldl (lv L256)
            ([(0, 0), (1, 1), (1, 0)].foldl (lv L256) (v, sitofp .bf16 (iota .tc S512x256 32 [1] iota_S512x256_d1_w32))))))))))))) := by
  unfold net1
  rw [show steps = [(0, 0), (1, 1), (1, 0)] ++ ([(2, 2), (2, 1), (2, 0)] ++ ([(3, 3), (3, 2), (3, 1), (3, 0), (4, 4), (4, 3), (4, 2)]
      ++ ([(4, 1), (4, 0), (5, 5)] ++ ([(5, 4), (5, 3), (5, 2)] ++ [(5, 1), (5, 0)])))) from rfl,
    show [6, 5, 4, 3, 2, 1, 0] = [6, 5, 4, 3] ++ [2, 1, 0] from rfl,
    show ([(5, 5), (5, 4), (5, 3), (5, 2), (5, 1), (5, 0)] : List (Nat × Nat)) = [(5, 5), (5, 4), (5, 3)] ++ [(5, 2), (5, 1), (5, 0)] from rfl]
  simp only [List.foldl_append]

theorem tail1_eq (arg1 : BitVec 32) (v38 : FVec Ideal S512x1024 .f32) (v40 : FVec Ideal S512x16 .f32) (v41 : Vec Ideal S256x64 .f32)
    (v66 v70 v72 : FVec Ideal S512x256 .f32) :
    tail1 arg1 v38 v40 v41 v66 v70 v72
      = ((net1 (sc1 arg1 v38 v40 v41 v66 v70 v72)).2,
        cmpf .ogt (extractStridedSlice S512x64 ![0, 0] (net1 (sc1 arg1 v38 v40 v41 v66 v70 v72)).1 slices_S512x128_o0_0_S512x64)
          (broadcast S512x64 (Scalar.ofBits (F := Ideal) .f32 0xFF800000#32))) := by
  unfold tail1
  extract_lets v114 v118 v120 v162 v166 v168 v184 v183 v188 v192 v196 v200 v204 v208 v210 v212 v216 v220 v224 v228 v232 v236 v244 v252 v255
    v260 v268 v276 v284 v286 v287 v288 v289 v290 v291 v292 v296 v304 v307 c2_i32_93 cst_101 v312 v320 v328 v336 v344 v352 v353 v355 v358
    v397 v398 v400 v403 v405 v406 v442 v443 v445 v448 v450 v451 v454 v488 v495 v501 v502 cst_146 v547 v548 v549 v592 v593 v595 v596
    v637 v638 v640 v643 v683 v685 v687 v690 v729 v730 v732 v735 v737 v774 v775 v778 v780 v786 v826 v827 v830 v832 v833 v834
  have hs : sc1 arg1 v38 v40 v41 v66 v70 v72 = v183 := rfl
  have h1 : [(0, 0), (1, 1), (1, 0)].foldl (lv L256) (v183, sitofp .bf16 (iota .tc S512x256 32 [1] iota_S512x256_d1_w32)) = (v397, v398) := rfl
  have h2 : [(2, 2), (2, 1), (2, 0)].foldl (lv L256) (v397, v398) = (v442, v443) := rfl
  have h3 : [(3, 3), (3, 2), (3, 1), (3, 0), (4, 4), (4, 3), (4, 2)].foldl (lv L256) (v442, v443) = (v547, v548) := rfl
  have h4 : [(4, 1), (4, 0), (5, 5)].foldl (lv L256) (v547, v548) = (v592, v593) := rfl
  have h5 : [(5, 4), (5, 3), (5, 2)].foldl (lv L256) (v592, v593) = (v637, v638) := rfl
  have h6 : pk (mx rotates_S512x256_d1 192#32 ([(5, 1), (5, 0)].foldl (lv L256) (v637, v638))) = (v683, v685) := rfl
  have h7 : [(5, 5), (5, 4), (5, 3)].foldl (lv LH) (v683, v685) = (v729, v730) := rfl
  have h8 : [(5, 2), (5, 1), (5, 0)].foldl (lv LH) (v729, v730) = (v774, v775) := rfl
  have h9 : [6, 5, 4, 3].foldl (mg LH) (v774, v775) = (v826, v827) := rfl
  rw [net1_split, hs, h1, h2, h3, h4, h5, h6, h7, h8, h9]
  rfl

end Cert.Value

end
-- ==== Proof.NetKeys.lean ====
/-
  The two networks' keys: what a row leaves are the 64 greatest keys of the row, in order.
-/
module

public import proofs.«01_k».proof.Proof.NetRun
public import Idealize.ShloMosaic.Lib.SortNet.Positions

@[expose] public section

set_option maxRecDepth 65536

noncomputable section

namespace Cert.Value

open Idealize.ShloMosaic Idealize.ShloMosaic.SortNet
open Cert.KernelIdeal Cert.KernelIdeal.Gen Cert.KernelIdeal.Run

/-! ## The masks and the squares at a lane -/

theorem ofBool_decide_ne {w : Nat} (a b : BitVec w) : IntOp.cmpi .ne a b = BitVec.ofBool (decide (a ≠ b)) := by
  by_cases h : a = b
  · subst h; simp [IntOp.cmpi]
  · simp [IntOp.cmpi, h, bne, beq_eq_false_iff_ne.mpr h]

theorem ofBool_decide_eq {w : Nat} (a b : BitVec w) : IntOp.cmpi .eq a b = BitVec.ofBool (decide (a = b)) := by
  by_cases h : a = b
  · subst h; simp [IntOp.cmpi]
  · simp [IntOp.cmpi, h, bne, beq_eq_false_iff_ne.mpr h]

theorem and_eq_zero (x m : Nat) (hx : x < 2 ^ 32) (hm : m < 2 ^ 32) :
    (BitVec.ofNat 32 x &&& BitVec.ofNat 32 m = 0#32) ↔ x &&& m = 0 := by
  rw [← BitVec.toNat_inj, BitVec.toNat_and, BitVec.toNat_ofNat, BitVec.toNat_ofNat, Nat.mod_eq_of_lt hx, Nat.mod_eq_of_lt hm]
  rfl

theorem xor_eq (x y m : Nat) (hx : x < 2 ^ 32) (hy : y < 2 ^ 32) (hm : m < 2 ^ 32) :
    (BitVec.ofNat 32 x ^^^ BitVec.ofNat 32 y = BitVec.ofNat 32 m) ↔ x ^^^ y = m := by
  rw [← BitVec.toNat_inj, BitVec.toNat_xor, BitVec.toNat_ofNat, BitVec.toNat_ofNat, BitVec.toNat_ofNat, Nat.mod_eq_of_lt hx,
    Nat.mod_eq_of_lt hy, Nat.mod_eq_of_lt hm]

theorem pow_small {s : Nat} (hs : s < 10) : 2 ^ s < 2 ^ 32 := Nat.pow_lt_pow_right (by decide) (by omega)

theorem bit128_at {m : Nat} (hm : m < 10) (r : Fin 512) (l : Fin 128) :
    bit128 m (ix2 r l) = BitVec.ofBool (decide (l.val &&& 2 ^ m ≠ 0)) := by
  unfold bit128
  have e : iota .tc S512x128 32 [1] iota_S512x128_d1_w32 (ix2 r l) = BitVec.ofNat 32 l.val := by pointwise
  rw [cmpi_apply, ofBool_decide_ne, andi_apply, e]
  refine congrArg _ (decide_eq_decide.mpr (not_congr ?_))
  exact and_eq_zero _ _ (by have := l.isLt; omega) (pow_small hm)

theorem clr128_at {m : Nat} (hm : m < 9) (r : Fin 512) (l : Fin 128) :
    clr128 m (ix2 r l) = BitVec.ofBool (decide (l.val &&& 2 ^ (m + 1) = 0)) := by
  unfold clr128
  have e : iota .tc S512x128 32 [1] iota_S512x128_d1_w32 (ix2 r l) = BitVec.ofNat 32 l.val := by pointwise
  rw [cmpi_apply, ofBool_decide_eq, andi_apply, e]
  refine congrArg _ (decide_eq_decide.mpr ?_)
  exact and_eq_zero _ _ (by have := l.isLt; omega) (pow_small (by omega))

theorem bit256_at {m : Nat} (hm : m < 10) (r : Fin 512) (l : Fin 256) :
    bit256 m (ix2 r l) = BitVec.ofBool (decide (l.val &&& 2 ^ m ≠ 0)) := by
  unfold bit256
  have e : iota .tc S512x256 32 [1] iota_S512x256_d1_w32 (ix2 r l) = BitVec.ofNat 32 l.val := by pointwise
  rw [cmpi_apply, ofBool_decide_ne, andi_apply, e]
  refine congrArg _ (decide_eq_decide.mpr (not_congr ?_))
  exact and_eq_zero _ _ (by have := l.isLt; omega) (pow_small hm)

theorem clr256_at {m : Nat} (hm : m < 9) (r : Fin 512) (l : Fin 256) :
    clr256 m (ix2 r l) = BitVec.ofBool (decide (l.val &&& 2 ^ (m + 1) = 0)) := by
  unfold clr256
  have e : iota .tc S512x256 32 [1] iota_S512x256_d1_w32 (ix2 r l) = BitVec.ofNat 32 l.val := by pointwise
  rw [cmpi_apply, ofBool_decide_eq, andi_apply, e]
  refine congrArg _ (decide_eq_decide.mpr ?_)
  exact and_eq_zero _ _ (by have := l.isLt; omega) (pow_small (by omega))

theorem half_at {m : Nat} (hm : m < 10) (r : Fin 512) (l : Fin 128) :
    half m (ix2 r l) = BitVec.ofBool (decide (l.val &&& 2 ^ m ≠ 0)) := by
  unfold half
  have e : (extractStridedSlice S512x128 ![0, 0] (bit256 m) slices_S512x256_o0_0_S512x128) (ix2 r l)
      = bit256 m (ix2 r ⟨l.val, by have := l.isLt; omega⟩) := by pointwise
  rw [e, bit256_at hm]

theorem halfClr_at {m : Nat} (hm : m < 9) (r : Fin 512) (l : Fin 128) :
    halfClr m (ix2 r l) = BitVec.ofBool (decide (l.val &&& 2 ^ (m + 1) = 0)) := by
  unfold halfClr
  have e : (extractStridedSlice S512x128 ![0, 0] (iota .tc S512x256 32 [1] iota_S512x256_d1_w32) slices_S512x256_o0_0_S512x128) (ix2 r l)
      = BitVec.ofNat 32 l.val := by pointwise
  rw [cmpi_apply, ofBool_decide_eq, andi_apply, e]
  refine congrArg _ (decide_eq_decide.mpr ?_)
  exact and_eq_zero _ _ (by have := l.isLt; omega) (pow_small (by omega))

/-- A flag as a number. -/
theorem flag (b : Bool) : (FloatOps.sitofp (F := Ideal) .f32 (BitVec.setWidth 32 (BitVec.ofBool b) : BitVec 32) : EReal) = if b then 1 else 0 := by
  cases b
  · show (((BitVec.setWidth 32 (BitVec.ofBool false) : BitVec 32).toInt : ℝ) : EReal) = _
    have : (BitVec.setWidth 32 (BitVec.ofBool false) : BitVec 32).toInt = 0 := by decide
    rw [this]; simp
  · show (((BitVec.setWidth 32 (BitVec.ofBool true) : BitVec 32).toInt : ℝ) : EReal) = _
    have : (BitVec.setWidth 32 (BitVec.ofBool true) : BitVec 32).toInt = 1 := by decide
    rw [this]; simp

theorem perm128_at {s : Nat} (hs : s < 10) (k l : Fin 128) :
    perm128 s (ix2 k l) = if k.val ^^^ l.val = 2 ^ s then (1 : EReal) else 0 := by
  have e : perm128 s (ix2 k l) = FloatOps.sitofp (F := Ideal) .f32
      (BitVec.setWidth 32 (IntOp.cmpi .eq (BitVec.ofNat 32 k.val ^^^ BitVec.ofNat 32 l.val) (BitVec.ofNat 32 (2 ^ s)))) := by
    unfold perm128
    have e0 : iota .tc S128x128 32 [0] iota_S128x128_d0_w32 (ix2 k l) = BitVec.ofNat 32 k.val := by pointwise
    have e1 : iota .tc S128x128 32 [1] iota_S128x128_d1_w32 (ix2 k l) = BitVec.ofNat 32 l.val := by pointwise
    rw [← e0, ← e1]
    rfl
  rw [e, ofBool_decide_eq, flag]
  have := xor_eq k.val l.val (2 ^ s) (by have := k.isLt; omega) (by have := l.isLt; omega) (pow_small hs)
  by_cases h : k.val ^^^ l.val = 2 ^ s
  · rw [if_pos h, if_pos (decide_eq_true (this.mpr h))]
  · rw [if_neg h, if_neg (by rw [decide_eq_true_eq]; exact fun h' => h (this.mp h'))]

theorem perm256_at {s : Nat} (hs : s < 10) (k l : Fin 256) :
    perm256 s (ix2 k l) = if k.val ^^^ l.val = 2 ^ s then (1 : EReal) else 0 := by
  have e : perm256 s (ix2 k l) = FloatOps.sitofp (F := Ideal) .f32
      (BitVec.setWidth 32 (IntOp.cmpi .eq (BitVec.ofNat 32 k.val ^^^ BitVec.ofNat 32 l.val) (BitVec.ofNat 32 (2 ^ s)))) := by
    unfold perm256
    have e0 : iota .tc S256x256 32 [0] iota_S256x256_d0_w32 (ix2 k l) = BitVec.ofNat 32 k.val := by pointwise
    have e1 : iota .tc S256x256 32 [1] iota_S256x256_d1_w32 (ix2 k l) = BitVec.ofNat 32 l.val := by pointwise
    rw [← e0, ← e1]
    rfl
  rw [e, ofBool_decide_eq, flag]
  have := xor_eq k.val l.val (2 ^ s) (by have := k.isLt; omega) (by have := l.isLt; omega) (pow_small hs)
  by_cases h : k.val ^^^ l.val = 2 ^ s
  · rw [if_pos h, if_pos (decide_eq_true (this.mpr h))]
  · rw [if_neg h, if_neg (by rw [decide_eq_true_eq]; exact fun h' => h (this.mp h'))]

theorem plain128 : Plain dot_S512x128_S128x128_S512x128_1_0_0_1_n_n := fun x P r l => by
  pointwise

theorem plain256 : Plain dot_S512x256_S256x256_S512x256_1_0_0_1_n_n := fun x P r l => by
  pointwise

/-- The masks and squares are what their names say. -/
structure Good {n : Nat} (L : Lanes n) (p : Nat) : Prop where
  hn : n = 2 ^ p
  hp : p < 10
  plain : Plain L.D
  bit : ∀ m, m < 10 → ∀ r l, L.bit m (ix2 r l) = BitVec.ofBool (decide (l.val &&& 2 ^ m ≠ 0))
  km : ∀ m, m < 9 → ∀ r l, L.km m (ix2 r l) = BitVec.ofBool (decide (l.val &&& 2 ^ (m + 1) = 0))
  perm : ∀ s, s < 10 → ∀ k l, L.perm s (ix2 k l) = if k.val ^^^ l.val = 2 ^ s then (1 : EReal) else 0

theorem good128 : Good L128 7 := ⟨rfl, by decide, plain128, fun m hm r l => bit128_at hm r l, fun m hm r l => clr128_at hm r l, fun s hs k l => perm128_at hs k l⟩
theorem good256 : Good L256 8 := ⟨rfl, by decide, plain256, fun m hm r l => bit256_at hm r l, fun m hm r l => clr256_at hm r l, fun s hs k l => perm256_at hs k l⟩
theorem goodH : Good LH 7 := ⟨rfl, by decide, plain128, fun m hm r l => half_at hm r l, fun m hm r l => halfClr_at hm r l, fun s hs k l => perm128_at hs k l⟩

/-! ## The chains as networks -/

theorem shift_toNat {n p s : Nat} (hn : n = 2 ^ p) (hp : p < 10) (hs : s < p) :
    (BitVec.ofNat 32 (2 ^ s)).toNat = 2 ^ s ∧ (BitVec.ofNat 32 (n - 2 ^ s)).toNat = n - 2 ^ s := by
  have h1 : 2 ^ p < 2 ^ 32 := pow_small hp
  have h2 : 2 ^ s < 2 ^ p := Nat.pow_lt_pow_right (by decide) hs
  subst hn
  rw [BitVec.toNat_ofNat, BitVec.toNat_ofNat, Nat.mod_eq_of_lt (a := 2 ^ s) (by omega), Nat.mod_eq_of_lt (lt_of_le_of_lt (Nat.sub_le (2 ^ p) (2 ^ s)) h1)]
  exact ⟨rfl, rfl⟩

/-- The direction of a level: an even block descends. -/
def dir {p : Nat} (l : Nat) (i : Fin (2 ^ p)) : Bool := decide (i.val &&& 2 ^ (l + 1) = 0) == true

theorem keyRow_lv {n p : Nat} {L : Lanes n} (G : Good L p) (S : Pair n) (e : Nat × Nat) (h1 : e.2 ≤ e.1) (h2 : e.1 < p)
    (h3 : e.1 < 9) (r : Fin 512) :
    keyRow G.hn (lv L S e) r = Network.apply (stage p e.2 (dir e.1)) (keyRow G.hn S r) := by
  have hs : e.2 < p := by omega
  have hs10 : e.2 < 10 := by omega
  obtain ⟨hd, hnd⟩ := shift_toNat G.hn G.hp hs
  refine keyRow_bst G.hn hs L.hr L.D G.plain _ _ _ _ _ S (dir e.1) (fun j => ?_) hd hnd (G.bit _ hs10) (fun r l => ?_) (G.perm _ hs10) r
  · unfold dir
    congr 1
    refine decide_eq_decide.mpr ?_
    rw [and_two_pow_eq_zero_iff_testBit, and_two_pow_eq_zero_iff_testBit, partner_val hs, Nat.testBit_xor,
      Nat.testBit_two_pow_of_ne (by omega), Bool.xor_false]
  · show IntOp.xori (IntOp.xori (L.bit e.2 (ix2 r l)) (L.km e.1 (ix2 r l))) 1#1 = _
    rw [G.bit _ hs10, G.km _ h3]
    unfold dir
    show _ = BitVec.ofBool (decide (l.val &&& 2 ^ e.2 ≠ 0) == (decide (l.val &&& 2 ^ (e.1 + 1) = 0) == true))
    cases decide (l.val &&& 2 ^ e.2 ≠ 0) <;> cases decide (l.val &&& 2 ^ (e.1 + 1) = 0) <;> rfl

theorem keyRow_mg {n p : Nat} {L : Lanes n} (G : Good L p) (S : Pair n) (s : Nat) (hs : s < p) (r : Fin 512) :
    keyRow G.hn (mg L S s) r = Network.apply (stage p s fun _ => true) (keyRow G.hn S r) := by
  have hs10 : s < 10 := lt_trans hs G.hp
  obtain ⟨hd, hnd⟩ := shift_toNat G.hn G.hp hs
  refine keyRow_bst G.hn hs L.hr L.D G.plain _ _ _ _ _ S _ (fun j => rfl) hd hnd (G.bit _ hs10) (fun r l => ?_) (G.perm _ hs10) r
  rw [G.bit _ hs10]
  cases decide (l.val &&& 2 ^ s ≠ 0) <;> rfl

theorem keyRow_lvs {n p : Nat} {L : Lanes n} (G : Good L p) (r : Fin 512) : ∀ (es : List (Nat × Nat)) (S : Pair n)
    (h : ∀ e ∈ es, e.2 ≤ e.1 ∧ e.1 < p ∧ e.1 < 9),
    keyRow G.hn (es.foldl (lv L) S) r = Network.apply (es.flatMap fun e => stage p e.2 (dir e.1)) (keyRow G.hn S r)
  | [], _, _ => rfl
  | e :: es, S, h => by
    obtain ⟨h1, h2, h3⟩ := h e List.mem_cons_self
    rw [List.foldl_cons, keyRow_lvs G r es _ fun e' he' => h e' (List.mem_cons_of_mem _ he'), keyRow_lv G S e h1 h2 h3,
      List.flatMap_cons, Network.apply_append]

theorem keyRow_mgs {n p : Nat} {L : Lanes n} (G : Good L p) (r : Fin 512) : ∀ (ss : List Nat) (S : Pair n) (h : ∀ s ∈ ss, s < p),
    keyRow G.hn (ss.foldl (mg L) S) r = Network.apply (ss.flatMap fun s => stage p s fun _ => true) (keyRow G.hn S r)
  | [], _, _ => rfl
  | s :: ss, S, h => by
    rw [List.foldl_cons, keyRow_mgs G r ss _ fun s' hs' => h s' (List.mem_cons_of_mem _ hs'),
      keyRow_mg G S s (h s List.mem_cons_self), List.flatMap_cons, Network.apply_append]

theorem steps_net (p : Nat) : (steps.flatMap fun e => stage p e.2 (dir e.1)) = levelsNet p true 6 := by
  unfold steps levelsNet levelNet
  rw [List.flatMap_assoc]
  refine congrArg (fun f => List.flatMap f (List.range 6)) (funext fun l => ?_)
  rw [List.flatMap_map]
  rfl

theorem keyRow_mx {n p : Nat} (hn : n = 2 ^ p) (hp : 6 ≤ p) (hr : (T n).Rotates 1 none) (d : BitVec 32) (hd : d.toNat = n - 64) (S : Pair n)
    (r : Fin 512) : keyRow hn (mx hr d S) r = maxHalf (keyRow hn S r) := by
  funext j
  have h64 : 2 ^ 6 ≤ 2 ^ p := Nat.pow_le_pow_right (by decide) hp
  set l : Fin n := j.cast hn.symm with hl
  set q : Fin n := ⟨(j.val + 64) % n, Nat.mod_lt _ (by omega)⟩ with hq
  have hk : q.val = (l.val + n - d.toNat % n) % n := by
    have := j.isLt
    rw [hd, Nat.mod_eq_of_lt (a := n - 64) (by omega)]
    show (j.val + 64) % n = (j.val + n - (n - 64)) % n
    congr 1
    omega
  have e1 : keyRow hn (mx hr d S) r j
      = mk (Scalar.select ((Ideal.cmp .ogt (S.1 (ix2 r l)) (dynamicRotate 1 d none S.1 hr (ix2 r l))
            ||| (Ideal.cmp .oeq (S.1 (ix2 r l)) (dynamicRotate 1 d none S.1 hr (ix2 r l))
              &&& Ideal.cmp .olt (S.2 (ix2 r l)) (dynamicRotate 1 d none S.2 hr (ix2 r l)))))
          (S.1 (ix2 r l)) (dynamicRotate 1 d none S.1 hr (ix2 r l)))
        (Scalar.select ((Ideal.cmp .ogt (S.1 (ix2 r l)) (dynamicRotate 1 d none S.1 hr (ix2 r l))
            ||| (Ideal.cmp .oeq (S.1 (ix2 r l)) (dynamicRotate 1 d none S.1 hr (ix2 r l))
              &&& Ideal.cmp .olt (S.2 (ix2 r l)) (dynamicRotate 1 d none S.2 hr (ix2 r l)))))
          (S.2 (ix2 r l)) (dynamicRotate 1 d none S.2 hr (ix2 r l))) := rfl
  rw [e1, rot_row hr d S.1 r l q hk, rot_row hr d S.2 r l q hk, keep_greater _ _ _ _ false _ (BitVec.xor_zero (w := 1)).symm]
  have e2 : maxHalf (keyRow hn S r) j = max (mk (S.1 (ix2 r l)) (S.2 (ix2 r l))) (mk (S.1 (ix2 r q)) (S.2 (ix2 r q))) := by
    unfold maxHalf keyRow
    congr 2
    · exact congrArg (fun z => S.1 (ix2 r z)) (Fin.ext (by subst hn; rfl))
    · exact congrArg (fun z => S.2 (ix2 r z)) (Fin.ext (by subst hn; rfl))
  rw [e2]
  by_cases h : mk (S.1 (ix2 r q)) (S.2 (ix2 r q)) < mk (S.1 (ix2 r l)) (S.2 (ix2 r l))
  · rw [if_pos (by simpa using h), max_eq_left (le_of_lt h)]
  · rw [if_neg (by simpa using h), max_eq_right (not_lt.mp h)]

theorem keyRow_pk (S : Pair 256) (r : Fin 512) : keyRow (p := 7) rfl (pk S) r = pick (keyRow (p := 8) rfl S r) := by
  funext j
  have sel : ∀ x : (T 256).Idx → EReal, (extractStridedSlice S512x128 ![0, 0]
      (select (cmpi .slt (iota .tc S512x256 32 [1] iota_S512x256_d1_w32) (broadcast S512x256 64#32)) x
        (dynamicRotate 1 192#32 none x rotates_S512x256_d1)) slices_S512x256_o0_0_S512x128) (ix2 r j)
      = x (ix2 r ⟨if j.val < 64 then j.val else j.val + 64, by have := j.isLt; split <;> omega⟩) := by
    intro x
    have e : (extractStridedSlice S512x128 ![0, 0]
      (select (cmpi .slt (iota .tc S512x256 32 [1] iota_S512x256_d1_w32) (broadcast S512x256 64#32)) x
        (dynamicRotate 1 192#32 none x rotates_S512x256_d1)) slices_S512x256_o0_0_S512x128) (ix2 r j)
      = (select (cmpi .slt (iota .tc S512x256 32 [1] iota_S512x256_d1_w32) (broadcast S512x256 64#32)) x
        (dynamicRotate 1 192#32 none x rotates_S512x256_d1)) (ix2 r ⟨j.val, by have := j.isLt; omega⟩) := by
      generalize (select _ x _ : (T 256).Idx → EReal) = z
      pointwise
    rw [e, ValueIdx.select_apply, cmpi_apply]
    have e0 : iota .tc S512x256 32 [1] iota_S512x256_d1_w32 (ix2 r (⟨j.val, by have := j.isLt; omega⟩ : Fin 256)) = BitVec.ofNat 32 j.val := by pointwise
    have hj := j.isLt
    rw [e0]
    by_cases h : j.val < 64
    · have : IntOp.cmpi .slt (BitVec.ofNat 32 j.val) (broadcast S512x256 64#32 (ix2 r (⟨j.val, by omega⟩ : Fin 256))) = 1#1 := by
        rw [show broadcast S512x256 64#32 (ix2 r (⟨j.val, by omega⟩ : Fin 256)) = BitVec.ofNat 32 64 from rfl,
          WordCmp.cmpi_slt_ofNat (by omega) (by omega), decide_eq_true h]
        rfl
      rw [this, ValueIdx.select_one]
      simp [h]
    · have : IntOp.cmpi .slt (BitVec.ofNat 32 j.val) (broadcast S512x256 64#32 (ix2 r (⟨j.val, by omega⟩ : Fin 256))) = 0#1 := by
        rw [show broadcast S512x256 64#32 (ix2 r (⟨j.val, by omega⟩ : Fin 256)) = BitVec.ofNat 32 64 from rfl,
          WordCmp.cmpi_slt_ofNat (by omega) (by omega), decide_eq_false h]
        rfl
      rw [this, ValueIdx.select_zero]
      refine rot_row _ _ x r _ _ ?_
      simp only [h, if_false]
      show j.val + 64 = (j.val + 256 - 192 % 256) % 256
      rw [Nat.mod_eq_of_lt] <;> omega
  unfold pick keyRow pk
  congr 1
  · exact sel S.1
  · exact sel S.2

/-! ## What the networks leave -/

/-- The key of a lane: its score, then its number, the smaller first. -/
def rk {n : Nat} (v : Fin n → EReal) (k : Fin n) : Key := mk (v k) ((k.val : ℝ) : EReal)

theorem lane_number {n : Nat} (k : Fin n) (hn : n ≤ 256) :
    (FloatOps.sitofp (F := Ideal) .bf16 (BitVec.ofNat 32 k.val) : EReal) = ((k.val : ℝ) : EReal) := by
  show (((BitVec.ofNat 32 k.val).toInt : ℝ) : EReal) = _
  have h : (BitVec.ofNat 32 k.val).toInt = (k.val : Int) := by
    have := k.isLt
    have e : (BitVec.ofNat 32 k.val).toNat = k.val := by rw [BitVec.toNat_ofNat, Nat.mod_eq_of_lt (by omega)]
    rw [BitVec.toInt_eq_toNat_of_lt (by rw [e]; omega), e]
  rw [h]
  norm_num

theorem net0_keys (v : FVec Ideal S512x128 .f32) (r : Fin 512) (j : Fin 64) :
    (topList 64 (List.ofFn (rk fun k : Fin 128 => v (ix2 r k))))[j.val]?
      = some (mk ((net0 v).1 (ix2 r ⟨j.val, by have := j.isLt; omega⟩)) ((net0 v).2 (ix2 r ⟨j.val, by have := j.isLt; omega⟩))) := by
  have start : keyRow (p := 7) rfl ((v, sitofp .bf16 (iota .tc S512x128 32 [1] iota_S512x128_d1_w32)) : Pair 128) r
      = rk fun k : Fin 128 => v (ix2 r k) := by
    funext k
    have e : iota .tc S512x128 32 [1] iota_S512x128_d1_w32 (ix2 r (k : Fin 128)) = BitVec.ofNat 32 k.val := by pointwise
    show mk (v (ix2 r k)) (FloatOps.sitofp (F := Ideal) .bf16 (iota .tc S512x128 32 [1] iota_S512x128_d1_w32 (ix2 r (k : Fin 128)))) = _
    rw [e, lane_number (n := 128) k (by decide)]
    rfl
  have main : keyRow (p := 7) rfl (net0 v) r
      = Network.apply (mergeChunks 7) (maxHalf (Network.apply (levelsNet 7 true 6) (rk fun k : Fin 128 => v (ix2 r k)))) := by
    unfold net0
    rw [keyRow_mgs good128 r _ _ (by decide), keyRow_mx rfl (by decide) _ _ (by decide), keyRow_lvs good128 r _ _ (by decide), start, steps_net]
    rfl
  rw [← net128, ← main, List.getElem?_ofFn, dif_pos (show j.val < 2 ^ 6 from j.isLt)]
  clear start main
  generalize net0 v = S
  have hc : (chunkPos (show 6 ≤ 7 by decide) ⟨0, by decide⟩ (⟨j.val, j.isLt⟩ : Fin (2 ^ 6)) : Fin (2 ^ 7)) = ⟨j.val, by have := j.isLt; omega⟩ :=
    Fin.ext (by simp [chunkPos])
  unfold chunk
  rw [hc]
  rfl

theorem net1_keys (v : FVec Ideal S512x256 .f32) (r : Fin 512) (j : Fin 64) :
    (topList 64 (List.ofFn (rk fun k : Fin 256 => v (ix2 r k))))[j.val]?
      = some (mk ((net1 v).1 (ix2 r ⟨j.val, by have := j.isLt; omega⟩)) ((net1 v).2 (ix2 r ⟨j.val, by have := j.isLt; omega⟩))) := by
  have start : keyRow (p := 8) rfl ((v, sitofp .bf16 (iota .tc S512x256 32 [1] iota_S512x256_d1_w32)) : Pair 256) r
      = rk fun k : Fin 256 => v (ix2 r k) := by
    funext k
    have e : iota .tc S512x256 32 [1] iota_S512x256_d1_w32 (ix2 r (k : Fin 256)) = BitVec.ofNat 32 k.val := by pointwise
    show mk (v (ix2 r k)) (FloatOps.sitofp (F := Ideal) .bf16 (iota .tc S512x256 32 [1] iota_S512x256_d1_w32 (ix2 r (k : Fin 256)))) = _
    rw [e, lane_number (n := 256) k (by decide)]
    rfl
  have main : keyRow (p := 7) rfl (net1 v) r
      = Network.apply (mergeDescNet 7) (Network.apply (levelNet 7 true 5) (pick (maxHalf (Network.apply (levelsNet 8 true 6) (rk fun k : Fin 256 => v (ix2 r k)))))) := by
    unfold net1
    rw [keyRow_mgs goodH r _ _ (by decide), keyRow_lvs goodH r _ _ (by decide), keyRow_pk, keyRow_mx rfl (by decide) _ _ (by decide),
      keyRow_lvs good256 r _ _ (by decide), start, steps_net]
    rfl
  have hj := j.isLt
  rw [← net256, ← main, List.getElem?_take_of_lt hj, List.getElem?_ofFn, dif_pos (by omega)]
  rfl

/-- A key's output: the lane, or −1 where the score is −∞. -/
def keyOut (s : EReal) (k : Nat) : BitVec 32 := if ⊥ < s then BitVec.ofNat 32 k else 4294967295#32

theorem neg_inf : (Scalar.ofBits (F := Ideal) .f32 0xFF800000#32 : EReal) = ⊥ := by
  show Ideal.ofBits .f32 0xFF800000#32 = ⊥
  simp [Ideal.ofBits, Ideal.ieee]

theorem fptosi_lane (k : Nat) (hk : k < 256) : (FloatOps.fptosi (F := Ideal) (φ := .bf16) 32 ((k : ℝ) : EReal) : BitVec 32) = BitVec.ofNat 32 k := by
  show BitVec.ofInt 32 (Ideal.toIntClamped (-(2 ^ (32 - 1) : Nat)) ((2 ^ (32 - 1) : Nat) - 1) ((k : ℝ) : EReal)) = _
  rw [Ideal.toIntClamped_coe, if_pos (Nat.cast_nonneg k), Int.floor_natCast]
  have e : max (-((2 ^ (32 - 1) : Nat) : Int)) (min (((2 ^ (32 - 1) : Nat) : Int) - 1) (k : Int)) = (k : Int) := by
    norm_num
    omega
  rw [e]
  exact BitVec.ofInt_natCast 32 k

theorem outs_at (S : Pair 128) (r : Fin 512) (j : Fin 64) (s : EReal) (k : Nat) (hk : k < 256)
    (h : mk (S.1 (ix2 r ⟨j.val, by have := j.isLt; omega⟩)) (S.2 (ix2 r ⟨j.val, by have := j.isLt; omega⟩)) = mk s ((k : ℝ) : EReal)) :
    outs S (ix2 r j) = keyOut s k := by
  have h' := Prod.ext_iff.mp (toLex.injective h)
  have hs : S.1 (ix2 r ⟨j.val, by have := j.isLt; omega⟩) = s := h'.1
  have hk' : S.2 (ix2 r ⟨j.val, by have := j.isLt; omega⟩) = ((k : ℝ) : EReal) := OrderDual.toDual.injective h'.2
  have e1 : extractStridedSlice S512x64 ![0, 0] S.1 slices_S512x128_o0_0_S512x64 (ix2 r j) = s := by
    rw [← hs]; pointwise
  have e2 : extractStridedSlice S512x64 ![0, 0] S.2 slices_S512x128_o0_0_S512x64 (ix2 r j) = ((k : ℝ) : EReal) := by
    rw [← hk']; pointwise
  show Scalar.select (Ideal.cmp .ogt (extractStridedSlice S512x64 ![0, 0] S.1 slices_S512x128_o0_0_S512x64 (ix2 r j))
      (Scalar.ofBits (F := Ideal) .f32 0xFF800000#32))
    (FloatOps.fptosi (F := Ideal) (φ := .bf16) 32 (extractStridedSlice S512x64 ![0, 0] S.2 slices_S512x128_o0_0_S512x64 (ix2 r j))) 4294967295#32 = _
  rw [e1, e2, neg_inf, fptosi_lane k hk]
  unfold keyOut
  show (if BitVec.ofBool (decide (⊥ < s)) = 1#1 then _ else _) = _
  by_cases hb : ⊥ < s
  · rw [if_pos hb, decide_eq_true hb]; rfl
  · rw [if_neg hb, decide_eq_false hb]; rfl

/-! ## The stable sort by the score -/

theorem insertBefore_congr {ι : Type} (B B' : ι → ι → Bool) (a : ι) : ∀ l : List ι, (∀ b ∈ l, B b a = B' b a) → insertBefore B a l = insertBefore B' a l
  | [], _ => rfl
  | b :: l, h => by
    unfold insertBefore
    rw [h b List.mem_cons_self, insertBefore_congr B B' a l fun c hc => h c (List.mem_cons_of_mem _ hc)]

theorem mem_insertBefore' {ι : Type} (B : ι → ι → Bool) (a : ι) : ∀ (l : List ι) (x : ι), x ∈ insertBefore B a l → x = a ∨ x ∈ l
  | [], x, h => by simpa [insertBefore] using h
  | b :: l, x, h => by
    unfold insertBefore at h
    split at h
    · rcases List.mem_cons.mp h with h | h
      · exact Or.inr (h ▸ List.mem_cons_self)
      · rcases mem_insertBefore' B a l x h with h | h
        · exact Or.inl h
        · exact Or.inr (List.mem_cons_of_mem _ h)
    · exact List.mem_cons.mp h

theorem mem_stableSort' {ι : Type} (B : ι → ι → Bool) : ∀ (l : List ι) (x : ι), x ∈ stableSort B l → x ∈ l
  | [], _, h => h
  | a :: l, x, h => (mem_insertBefore' B a _ x h).elim (fun e => e ▸ List.mem_cons_self) fun h => List.mem_cons_of_mem _ (mem_stableSort' B l x h)

/-- Two orders that agree on "the later one before the earlier one" sort an ascending list alike. -/
theorem stableSort_congr' {n : Nat} (B B' : Fin n → Fin n → Bool) (h : ∀ a b : Fin n, a < b → B b a = B' b a) :
    ∀ l : List (Fin n), l.Pairwise (· < ·) → stableSort B l = stableSort B' l
  | [], _ => rfl
  | a :: l, hl => by
    obtain ⟨h1, h2⟩ := List.pairwise_cons.mp hl
    show insertBefore B a (stableSort B l) = insertBefore B' a (stableSort B' l)
    rw [← stableSort_congr' B B' h l h2]
    exact insertBefore_congr B B' a _ fun b hb => h a b (h1 b (mem_stableSort' B l b hb))

theorem rk_injective {n : Nat} (w : Fin n → EReal) : Function.Injective (rk w) := by
  intro a b h
  have h' := Prod.ext_iff.mp (toLex.injective h)
  have : ((a.val : ℝ) : EReal) = ((b.val : ℝ) : EReal) := OrderDual.toDual.injective h'.2
  exact Fin.ext (by exact_mod_cast EReal.coe_injective this)

theorem lane_lt (a b : Nat) : (((a : ℝ) : EReal) < ((b : ℝ) : EReal)) ↔ a < b := by
  rw [EReal.coe_lt_coe_iff]; exact Nat.cast_lt

/-- The sort of the lanes by the greater score, ties kept, is the sort by the greater key. -/
theorem sortedFrom_rk {n : Nat} (w : Fin n → EReal) :
    sortedFrom (fun k k' => decide (w k' < w k)) = sortedFrom (greaterFirst (rk w)) := by
  have e : sortPositions n (fun k k' => decide (w k' < w k)) = sortPositions n (greaterFirst (rk w)) := by
    refine stableSort_congr' _ _ (fun a b hab => ?_) _ (List.pairwise_lt_finRange n)
    unfold greaterFirst rk
    refine decide_eq_decide.mpr ?_
    rw [mk_lt]
    refine ⟨Or.inl, fun h => h.elim id fun h => absurd ((lane_lt _ _).mp h.2) ?_⟩
    have : a.val < b.val := hab
    omega
  funext k
  unfold sortedFrom
  simp only [List.get_eq_getElem, e]
  rfl

/-- A row's output by the plain top-k: the `j`-th lane of the sort, or −1 where its score is −∞. -/
def rowOut (w : Fin 256 → EReal) (j : Fin 64) : BitVec 32 :=
  let k := sortedFrom (fun k k' => decide (w k' < w k)) (⟨j.val, by have := j.isLt; omega⟩ : Fin 256)
  keyOut (w k) k.val

theorem rowOut_of_top (w : Fin 256 → EReal) (S : Pair 128) (r : Fin 512) (j : Fin 64)
    (h : (topList 64 (List.ofFn (rk w)))[j.val]?
      = some (mk (S.1 (ix2 r ⟨j.val, by have := j.isLt; omega⟩)) (S.2 (ix2 r ⟨j.val, by have := j.isLt; omega⟩)))) :
    outs S (ix2 r j) = rowOut w j := by
  have hj := j.isLt
  rw [← entry_sortedFrom_eq_topList (rk w) (rk_injective w) 64 ⟨j.val, by omega⟩ hj, ← sortedFrom_rk] at h
  exact outs_at S r j _ _ (Fin.isLt _) (Option.some.inj h).symm

theorem net1_out (v : FVec Ideal S512x256 .f32) (r : Fin 512) (j : Fin 64) : outs (net1 v) (ix2 r j) = rowOut (fun k => v (ix2 r k)) j :=
  rowOut_of_top _ _ r j (net1_keys v r j)

/-- The first call's 128 lanes are the 256 lanes when the rest are −∞. -/
theorem net0_out (v : FVec Ideal S512x128 .f32) (r : Fin 512) (j : Fin 64) (w : Fin 256 → EReal)
    (hlo : ∀ k : Fin 128, w ⟨k.val, by have := k.isLt; omega⟩ = v (ix2 r k)) (hhi : ∀ k : Fin 256, 128 ≤ k.val → w k = ⊥) :
    outs (net0 v) (ix2 r j) = rowOut w j := by
  refine rowOut_of_top w _ r j ?_
  rw [← net0_keys v r j]
  have split : List.ofFn (rk w) = List.ofFn (rk fun k : Fin 128 => v (ix2 r k)) ++ List.ofFn (fun k : Fin 128 => mk ⊥ (((128 + k.val : Nat) : ℝ) : EReal)) := by
    rw [← List.ofFn_fin_append]
    refine congrArg List.ofFn (funext fun k => ?_)
    refine Fin.addCases (m := 128) (n := 128) (fun i => ?_) (fun i => ?_) k
    · rw [Fin.append_left]
      exact congrArg (fun z => mk z _) (hlo i)
    · rw [Fin.append_right]
      exact congrArg (fun z => mk z _) (hhi _ (by simp))
  rw [split, topList_append_of_le]
  · rw [List.length_ofFn]; decide
  · intro s hs a ha
    obtain ⟨i, rfl⟩ := (List.mem_ofFn' _ _).mp hs
    obtain ⟨k, rfl⟩ := (List.mem_ofFn' _ _).mp (mem_of_mem_topList ha)
    refine le_of_lt ((mk_lt _ _ _ _).mpr ?_)
    by_cases hb : v (ix2 r k) = ⊥
    · refine Or.inr ⟨hb.symm, (lane_lt _ _).mpr ?_⟩
      have := k.isLt
      omega
    · exact Or.inl (bot_lt_iff_ne_bot.mpr hb)

end Cert.Value

end
-- ==== Proof.Payloads.lean ====
/-
  What one grid step computes, in plain sums: the compressed keys of its blocks, and its masked scores.
-/
module

public import proofs.«01_k».proof.Proof.NetKeys

@[expose] public section

set_option maxRecDepth 65536

noncomputable section

namespace Cert.Value

open Idealize.ShloMosaic Idealize.ShloMosaic.SortNet
open Cert.KernelIdeal Cert.KernelIdeal.Gen Cert.KernelIdeal.Run

/-- A matrix. -/
abbrev Mat (a b : Nat) : Type := (⟨2, ![a, b]⟩ : Shape).Idx → EReal

/-- The gate of a block's row before the softmax. -/
def gate (wz : Mat 64 2048) (bias : Mat 16 64) (X : Fin 16 → Fin 2048 → EReal) (c : Fin 64) (x : Fin 16) : EReal :=
  ∑ k, X x k * wz (ix2 c k) + bias (ix2 x c)

/-- A gate's exponential, the block's greatest gate subtracted. -/
def egate (wz : Mat 64 2048) (bias : Mat 16 64) (X : Fin 16 → Fin 2048 → EReal) (c : Fin 64) (x : Fin 16) : EReal :=
  Ideal.exp (gate wz bias X c x - Finset.univ.fold max ⊥ (gate wz bias X c))

/-- A block's compressed key: its rows' values averaged by the softmax of their gates. -/
def comp (wkv wz : Mat 64 2048) (bias : Mat 16 64) (X : Fin 16 → Fin 2048 → EReal) (c : Fin 64) : EReal :=
  ∑ x, Ideal.div (egate wz bias X c x) (∑ y, egate wz bias X c y) * ∑ k, X x k * wkv (ix2 c k)

/-- A query's entry. -/
def query (wdq : Mat 64 2048) (wiuq : Mat 1024 64) (x : Fin 2048 → EReal) (e : Fin 1024) : EReal :=
  ∑ d : Fin 64, (∑ k, x k * wdq (ix2 d k)) * wiuq (ix2 e d)

/-- A row's score against a compressed key. -/
def score (wdq : Mat 64 2048) (wiuq : Mat 1024 64) (ww : Mat 16 2048) (x : Fin 2048 → EReal) (key : Fin 64 → EReal) : EReal :=
  ∑ n : Fin 16, max (∑ c : Fin 64, query wdq wiuq x ⟨64 * n.val + c.val, by have := n.isLt; have := c.isLt; omega⟩ * key c) 0
    * ∑ k, x k * ww (ix2 n k)

/-- The score where the block ends before the row, −∞ elsewhere. -/
def masked (t l : Nat) (s : EReal) : EReal := if l * 16 + 15 < t then s else ⊥

theorem ofBits_neg_inf : Ideal.ofBits .f32 0xFF800000#32 = ⊥ := neg_inf

theorem comp0_at (x0 : Vec Ideal S1x512x2048 .f32) (x1 x2 : Vec Ideal S64x2048 .f32) (x3 : Vec Ideal S16x64 .f32) (g : Fin 32) (c : Fin 64) :
    k0_pay3 x0 x1 x2 x3 (ix2 g c)
      = comp x1 x2 x3 (fun x k => x0 (ix3 0 ⟨g.val * 16 + x.val, by have := g.isLt; have := x.isLt; omega⟩ k)) c := by
  pointwise [k0_pay3, k0_pay2]
  rw [ofBits_neg_inf]
  rfl

theorem comp1_at (x0 : Vec Ideal S1x512x2048 .f32) (x1 x2 : Vec Ideal S64x2048 .f32) (x3 : Vec Ideal S16x64 .f32) (g : Fin 32) (c : Fin 64) :
    k1_pay3 x0 x1 x2 x3 (ix2 g c)
      = comp x1 x2 x3 (fun x k => x0 (ix3 0 ⟨g.val * 16 + x.val, by have := g.isLt; have := x.isLt; omega⟩ k)) c := by
  pointwise [k1_pay3, k1_pay2]
  rw [ofBits_neg_inf]
  rfl

/-- One head's part of a score, of the queries and the head weights; `o` is where the head's queries start. -/
def hd {n : Nat} (q : FVec Ideal S512x1024 .f32) (w : FVec Ideal S512x16 .f32) (s : Mat n 64) (r : Fin 512) (l : Fin n) (o : Nat) (ho : o + 64 ≤ 1024)
    (a : Fin 16) : EReal :=
  max (∑ c : Fin 64, q (ix2 r ⟨o + c.val, by have := c.isLt; omega⟩) * s (ix2 l c)) 0 * w (ix2 r a)

/-- The heads in turn. -/
def heads {n : Nat} (q : FVec Ideal S512x1024 .f32) (w : FVec Ideal S512x16 .f32) (s : Mat n 64) (r : Fin 512) (l : Fin n) : EReal :=
  ∑ a : Fin 16, hd q w s r l (64 * a.val) (by have := a.isLt; omega) a

theorem hd_start {n : Nat} (q : FVec Ideal S512x1024 .f32) (w : FVec Ideal S512x16 .f32) (s : Mat n 64) (r : Fin 512) (l : Fin n) (o o' : Nat) (ho : o + 64 ≤ 1024)
    (h : o' = o) (a : Fin 16) : hd q w s r l o ho a = hd q w s r l o' (h ▸ ho) a := by
  subst h; rfl

theorem sum16 (f : Fin 16 → EReal) : ∑ a, f a = f 0 + f 1 + f 2 + f 3 + f 4 + f 5 + f 6 + f 7 + f 8 + f 9 + f 10 + f 11 + f 12 + f 13 + f 14 + f 15 := by
  simp only [Fin.sum_univ_castSucc, Fin.sum_univ_zero, zero_add]
  rfl

theorem heads_eq {n : Nat} (q : FVec Ideal S512x1024 .f32) (w : FVec Ideal S512x16 .f32) (s : Mat n 64) (r : Fin 512) (l : Fin n) : heads q w s r l
    = hd q w s r l 0 (by decide) 0 + hd q w s r l 64 (by decide) 1 + hd q w s r l 128 (by decide) 2 + hd q w s r l 192 (by decide) 3
    + hd q w s r l 256 (by decide) 4 + hd q w s r l 320 (by decide) 5 + hd q w s r l 384 (by decide) 6 + hd q w s r l 448 (by decide) 7
    + hd q w s r l 512 (by decide) 8 + hd q w s r l 576 (by decide) 9 + hd q w s r l 640 (by decide) 10 + hd q w s r l 704 (by decide) 11
    + hd q w s r l 768 (by decide) 12 + hd q w s r l 832 (by decide) 13 + hd q w s r l 896 (by decide) 14 + hd q w s r l 960 (by decide) 15 := by
  unfold heads
  rw [sum16]
  iterate 15 refine congrArg₂ (· + ·) ?_ (hd_start q w s r l _ _ _ (by decide) _)
  exact hd_start q w s r l _ _ _ (by decide) _

theorem mask_word (i l r c : Nat) (hi : i < 4) (hl : l < 256) (hr : r < 512) (hc : c ≤ 4) (s : EReal) :
    Scalar.select (IntOp.cmpi .slt (IntOp.addi (IntOp.muli (BitVec.ofNat 32 l) 16#32) 15#32)
      (IntOp.addi (Scalar.muli (Scalar.addi (BitVec.ofNat 32 i) (BitVec.ofNat 32 c)) 512#32) (BitVec.ofNat 32 r))) s (Ideal.ofBits .f32 0xFF800000#32)
      = masked (512 * (i + c) + r) l s := by
  have e1 : IntOp.addi (IntOp.muli (BitVec.ofNat 32 l) 16#32) 15#32 = BitVec.ofNat 32 (l * 16 + 15) := by
    rw [BitVec.ofNat_add, BitVec.ofNat_mul]; rfl
  have e2 : IntOp.addi (Scalar.muli (Scalar.addi (BitVec.ofNat 32 i) (BitVec.ofNat 32 c)) 512#32) (BitVec.ofNat 32 r) = BitVec.ofNat 32 ((i + c) * 512 + r) := by
    rw [BitVec.ofNat_add, BitVec.ofNat_mul, BitVec.ofNat_add]; rfl
  rw [e1, e2, WordCmp.cmpi_slt_ofNat (by omega) (by omega), ofBits_neg_inf, Nat.mul_comm (i + c) 512]
  unfold masked
  by_cases h : l * 16 + 15 < 512 * (i + c) + r
  · rw [if_pos h, decide_eq_true h]; rfl
  · rw [if_neg h, decide_eq_false h]; rfl

theorem pay15_at (v : FVec Ideal S512x128 .f32) (i : Nat) (hi : i < 4) (r : Fin 512) (l : Fin 128) :
    k0_pay15 v (iota .tc S512x128 32 [0] iota_S512x128_d0_w32) (k0_pay14 (BitVec.ofNat 32 i)) (ix2 r l) = masked (512 * i + r.val) l.val (v (ix2 r l)) := by
  pointwise [k0_pay15, k0_pay14]
  exact mask_word i l.val r.val 0 hi (by have := l.isLt; omega) r.isLt (by decide) _

theorem pay18_at (v w x : FVec Ideal S512x256 .f32) (i : Nat) (hi : i < 4) (r : Fin 512) (l : Fin 256) :
    k1_pay18 (BitVec.ofNat 32 i) v w x (ix2 r l) = masked (512 * (i + 4) + r.val) l.val (v (ix2 r l) + w (ix2 r l) * x (ix2 r l)) := by
  pointwise [k1_pay18]
  exact mask_word i l.val r.val 4 hi l.isLt r.isLt (by decide) _

/-! ### Call 0's heads -/

section
variable (q : FVec Ideal S512x1024 .f32) (w : FVec Ideal S512x16 .f32) (s : Vec Ideal S128x64 .f32) (r : Fin 512) (l : Fin 128)

theorem pay9_at (v1 : FVec Ideal S512x2048 .f32) (v32 : FVec Ideal S512x64 .f32) (v33 : Vec Ideal S1024x64 .f32) (v35 : Vec Ideal S16x2048 .f32) :
    k0_pay9 v1 v32 v33 v35 s (ix2 r l) = hd (k0_pay7 v32 v33) (k0_pay8 v1 v35) s r l 0 (by decide) 0 + hd (k0_pay7 v32 v33) (k0_pay8 v1 v35) s r l 64 (by decide) 1
      + hd (k0_pay7 v32 v33) (k0_pay8 v1 v35) s r l 128 (by decide) 2 + hd (k0_pay7 v32 v33) (k0_pay8 v1 v35) s r l 192 (by decide) 3 := by
  pointwise [k0_pay9]
  simp only [hd, Nat.zero_add]

theorem pay10_at (v32 : FVec Ideal S512x64 .f32) (v33 : Vec Ideal S1024x64 .f32) :
    k0_pay10 v32 v33 s (ix2 r l) = max (∑ c : Fin 64, k0_pay7 v32 v33 (ix2 r ⟨256 + c.val, by have := c.isLt; omega⟩) * s (ix2 l c)) 0 := by
  pointwise [k0_pay10]

theorem pay11_at (v70 v74 : FVec Ideal S512x128 .f32) :
    k0_pay11 q w s v70 v74 (ix2 r l) = v70 (ix2 r l) + v74 (ix2 r l) * w (ix2 r 4) + hd q w s r l 320 (by decide) 5 + hd q w s r l 384 (by decide) 6
      + hd q w s r l 448 (by decide) 7 + hd q w s r l 512 (by decide) 8 + hd q w s r l 576 (by decide) 9 := by
  pointwise [k0_pay11]
  simp only [hd]

theorem pay12_at : k0_pay12 q s (ix2 r l) = max (∑ c : Fin 64, q (ix2 r ⟨640 + c.val, by have := c.isLt; omega⟩) * s (ix2 l c)) 0 := by
  pointwise [k0_pay12]

theorem pay13_at (v118 v122 : FVec Ideal S512x128 .f32) :
    k0_pay13 q w s v118 v122 (ix2 r l) = v118 (ix2 r l) + v122 (ix2 r l) * w (ix2 r 10) + hd q w s r l 704 (by decide) 11 + hd q w s r l 768 (by decide) 12
      + hd q w s r l 832 (by decide) 13 + hd q w s r l 896 (by decide) 14 + hd q w s r l 960 (by decide) 15 := by
  pointwise [k0_pay13]
  simp only [hd]

end

theorem sc0_heads (i : Nat) (hi : i < 4) (v1 : FVec Ideal S512x2048 .f32) (v32 : FVec Ideal S512x64 .f32) (v33 : Vec Ideal S1024x64 .f32) (v35 : Vec Ideal S16x2048 .f32)
    (s : Vec Ideal S128x64 .f32) (r : Fin 512) (l : Fin 128) :
    sc0 (BitVec.ofNat 32 i) (k0_pay7 v32 v33) (k0_pay8 v1 v35) s (k0_pay9 v1 v32 v33 v35 s) (k0_pay10 v32 v33 s) (ix2 r l)
      = masked (512 * i + r.val) l.val (heads (k0_pay7 v32 v33) (k0_pay8 v1 v35) s r l) := by
  unfold sc0
  rw [pay15_at _ i hi, pay13_at, pay12_at, pay11_at, pay10_at, pay9_at, heads_eq]
  rfl

/-! ### Call 1's heads -/

section
variable (q : FVec Ideal S512x1024 .f32) (w : FVec Ideal S512x16 .f32) (s : Vec Ideal S256x64 .f32) (r : Fin 512) (l : Fin 256)

theorem pay9'_at (v1 : FVec Ideal S512x2048 .f32) (v35 : Vec Ideal S64x2048 .f32) (v37 : Vec Ideal S1024x64 .f32) (v39 : Vec Ideal S16x2048 .f32) :
    k1_pay9 v1 v35 v37 v39 s (ix2 r l) = hd (k1_pay7 v1 v35 v37) (k1_pay8 v1 v39) s r l 0 (by decide) 0 + hd (k1_pay7 v1 v35 v37) (k1_pay8 v1 v39) s r l 64 (by decide) 1
      + hd (k1_pay7 v1 v35 v37) (k1_pay8 v1 v39) s r l 128 (by decide) 2 := by
  pointwise [k1_pay9]
  simp only [hd, Nat.zero_add]

theorem pay10'_at (v1 : FVec Ideal S512x2048 .f32) (v35 : Vec Ideal S64x2048 .f32) (v37 : Vec Ideal S1024x64 .f32) :
    k1_pay10 v1 v35 v37 s (ix2 r l) = max (∑ c : Fin 64, k1_pay7 v1 v35 v37 (ix2 r ⟨192 + c.val, by have := c.isLt; omega⟩) * s (ix2 l c)) 0 := by
  pointwise [k1_pay10]

theorem pay11'_at (v1 : FVec Ideal S512x2048 .f32) (v39 : Vec Ideal S16x2048 .f32) : k1_pay11 v1 v39 (ix2 r l) = k1_pay8 v1 v39 (ix2 r 3) := by
  pointwise [k1_pay11]

theorem pay12'_at (v66 v70 v72 : FVec Ideal S512x256 .f32) :
    k1_pay12 q w s v66 v70 v72 (ix2 r l) = v66 (ix2 r l) + v70 (ix2 r l) * v72 (ix2 r l) + hd q w s r l 256 (by decide) 4 + hd q w s r l 320 (by decide) 5
      + hd q w s r l 384 (by decide) 6 + hd q w s r l 448 (by decide) 7 + hd q w s r l 512 (by decide) 8 := by
  pointwise [k1_pay12]
  simp only [hd]

theorem pay13'_at : k1_pay13 q s (ix2 r l) = max (∑ c : Fin 64, q (ix2 r ⟨576 + c.val, by have := c.isLt; omega⟩) * s (ix2 l c)) 0 := by
  pointwise [k1_pay13]

theorem pay14'_at : k1_pay14 w (ix2 r l) = w (ix2 r 9) := by
  pointwise [k1_pay14]

theorem pay15'_at (v114 v118 v120 : FVec Ideal S512x256 .f32) :
    k1_pay15 q w s v114 v118 v120 (ix2 r l) = v114 (ix2 r l) + v118 (ix2 r l) * v120 (ix2 r l) + hd q w s r l 640 (by decide) 10 + hd q w s r l 704 (by decide) 11
      + hd q w s r l 768 (by decide) 12 + hd q w s r l 832 (by decide) 13 + hd q w s r l 896 (by decide) 14 := by
  pointwise [k1_pay15]
  simp only [hd]

theorem pay16'_at : k1_pay16 q s (ix2 r l) = max (∑ c : Fin 64, q (ix2 r ⟨960 + c.val, by have := c.isLt; omega⟩) * s (ix2 l c)) 0 := by
  pointwise [k1_pay16]

theorem pay17'_at : k1_pay17 w (ix2 r l) = w (ix2 r 15) := by
  pointwise [k1_pay17]

end

theorem sc1_heads (i : Nat) (hi : i < 4) (v1 : FVec Ideal S512x2048 .f32) (v35 : Vec Ideal S64x2048 .f32) (v37 : Vec Ideal S1024x64 .f32) (v39 : Vec Ideal S16x2048 .f32)
    (s : Vec Ideal S256x64 .f32) (r : Fin 512) (l : Fin 256) :
    sc1 (BitVec.ofNat 32 i) (k1_pay7 v1 v35 v37) (k1_pay8 v1 v39) s (k1_pay9 v1 v35 v37 v39 s) (k1_pay10 v1 v35 v37 s) (k1_pay11 v1 v39) (ix2 r l)
      = masked (512 * (i + 4) + r.val) l.val (heads (k1_pay7 v1 v35 v37) (k1_pay8 v1 v39) s r l) := by
  unfold sc1
  rw [pay18_at _ _ _ i hi, pay17'_at, pay16'_at, pay15'_at, pay14'_at, pay13'_at, pay12'_at, pay11'_at, pay10'_at, pay9'_at, heads_eq]
  rfl

/-! ### The heads of a block's rows are the plain scores -/

theorem heads0_score (x0 : Vec Ideal S1x512x2048 .f32) (x4 : Vec Ideal S64x2048 .f32) (x5 : Vec Ideal S1024x64 .f32) (x6 : Vec Ideal S16x2048 .f32)
    (s : Vec Ideal S128x64 .f32) (r : Fin 512) (l : Fin 128) :
    heads (k0_pay7 (k0_pay6 x0 x4) x5) (k0_pay8 (k0_pay2 x0) x6) s r l = score x4 x5 x6 (fun k => x0 (ix3 0 r k)) (fun c => s (ix2 l c)) := by
  have hq : ∀ e : Fin 1024, k0_pay7 (k0_pay6 x0 x4) x5 (ix2 r e) = query x4 x5 (fun k => x0 (ix3 0 r k)) e := fun e => by
    pointwise [k0_pay7, k0_pay6, k0_pay2]
    rfl
  have hw : ∀ a : Fin 16, k0_pay8 (k0_pay2 x0) x6 (ix2 r a) = ∑ k, x0 (ix3 0 r k) * x6 (ix2 a k) := fun a => by
    pointwise [k0_pay8, k0_pay2]
  unfold heads hd score
  simp only [hq, hw]

theorem heads1_score (x0 : Vec Ideal S1x512x2048 .f32) (x4 : Vec Ideal S64x2048 .f32) (x5 : Vec Ideal S1024x64 .f32) (x6 : Vec Ideal S16x2048 .f32)
    (s : Vec Ideal S256x64 .f32) (r : Fin 512) (l : Fin 256) :
    heads (k1_pay7 (k1_pay2 x0) x4 x5) (k1_pay8 (k1_pay2 x0) x6) s r l = score x4 x5 x6 (fun k => x0 (ix3 0 r k)) (fun c => s (ix2 l c)) := by
  have hq : ∀ e : Fin 1024, k1_pay7 (k1_pay2 x0) x4 x5 (ix2 r e) = query x4 x5 (fun k => x0 (ix3 0 r k)) e := fun e => by
    pointwise [k1_pay7, k1_pay2]
    rfl
  have hw : ∀ a : Fin 16, k1_pay8 (k1_pay2 x0) x6 (ix2 r a) = ∑ k, x0 (ix3 0 r k) * x6 (ix2 a k) := fun a => by
    pointwise [k1_pay8, k1_pay2]
  unfold heads hd score
  simp only [hq, hw]

end Cert.Value

end
-- ==== Proof.Steps.lean ====
/-
  One grid step against the mathematics: given the rows of its block and the compressed keys in its scratch, the
  positions it leaves are those of the masked scores, sorted.
-/
module

public import proofs.«01_k».proof.Proof.Payloads
public import proofs.«01_k».proof.Proof.KiUpd

@[expose] public section

set_option maxRecDepth 65536

noncomputable section

namespace Cert.Value

open Idealize.ShloMosaic Idealize.ShloMosaic.SortNet
open Cert.KernelIdeal Cert.KernelIdeal.Gen Cert.KernelIdeal.Run

/-! ## The two results, as functions of the arguments -/

section
variable (h : (⟨3, ![2, 4096, 2048]⟩ : Shape).Idx → EReal) (wkv wz : Mat 64 2048) (bias : Mat 16 64) (wdq : Mat 64 2048) (wiuq : Mat 1024 64) (ww : Mat 16 2048)

/-- The compressed key of block `n` of batch `b`. -/
def keyOf (b : Fin 2) (n : Fin 256) (c : Fin 64) : EReal :=
  comp wkv wz bias (fun x k => h (ix3 b ⟨n.val * 16 + x.val, by have := n.isLt; have := x.isLt; omega⟩ k)) c

/-- The masked score of row `t` of batch `b` against block `n`'s key. -/
def scoreOf (b : Fin 2) (t : Fin 4096) (n : Fin 256) : EReal :=
  masked t.val n.val (score wdq wiuq ww (fun k => h (ix3 b t k)) (keyOf h wkv wz bias b n))

/-- The `j`-th position of row `t` of batch `b`. -/
def posOf (b : Fin 2) (t : Fin 4096) (j : Fin 64) : BitVec 32 := rowOut (scoreOf h wkv wz bias wdq wiuq ww b t) j

/-! ## A step of each call -/

/-- A block of 512 rows of batch `b`, the `i`-th. -/
def IsRows (b : Fin 2) (i : Nat) (hi : i < 8) (x0 : (⟨3, ![1, 512, 2048]⟩ : Shape).Idx → EReal) : Prop :=
  ∀ (r : Fin 512) (k : Fin 2048), x0 (ix3 0 r k) = h (ix3 b ⟨512 * i + r.val, by have := r.isLt; omega⟩ k)

/-- The first `n` scratch rows are batch `b`'s keys. -/
def HasKeys {N : Nat} (hN : N ≤ 256) (b : Fin 2) (n : Nat) (s : (⟨2, ![N, 64]⟩ : Shape).Idx → EReal) : Prop :=
  ∀ (l : Fin N) (c : Fin 64), l.val < n → s (ix2 l c) = keyOf h wkv wz bias b ⟨l.val, Nat.lt_of_lt_of_le l.isLt hN⟩ c

variable {h wkv wz bias wdq wiuq ww}

/-- The key of a block's sixteen rows. -/
theorem comp_rows {b : Fin 2} {i : Nat} {hi : i < 8} {x0 : (⟨3, ![1, 512, 2048]⟩ : Shape).Idx → EReal} (hx : IsRows h b i hi x0) (g : Fin 32) (c : Fin 64)
    (n : Fin 256) (hn : n.val = 32 * i + g.val) :
    comp wkv wz bias (fun x k => x0 (ix3 0 ⟨g.val * 16 + x.val, by have := g.isLt; have := x.isLt; omega⟩ k)) c = keyOf h wkv wz bias b n c := by
  unfold keyOf
  congr 1
  funext x k
  rw [hx]
  congr 2
  apply Fin.ext
  simp only [hn]
  omega

theorem updRows_ix2 {n : Nat} (o : Nat) (s : Vec Ideal ⟨2, ![n, 64]⟩ .f32) (y : FVec Ideal S32x64 .f32) (l : Fin n) (c : Fin 64) :
    updRows o s y (ix2 l c) = if h : o ≤ l.val ∧ l.val < o + 32 then y (ix2 ⟨l.val - o, by omega⟩ c) else s (ix2 l c) := by
  unfold updRows
  by_cases h : o ≤ l.val ∧ l.val < o + 32
  · rw [dif_pos h]
    refine (dif_pos h).trans ?_
    congr 1
    funext a
    apply Fin.ext
    match a with
    | 0 => rfl
    | 1 => rfl
  · rw [dif_neg h]
    exact dif_neg h

theorem updTop_ix2 {n : Nat} (s : Vec Ideal ⟨2, ![n, 64]⟩ .f32) (y : FVec Ideal S128x64 .f32) (l : Fin n) (c : Fin 64) :
    updTop s y (ix2 l c) = if h : l.val < 128 then y (ix2 ⟨l.val, h⟩ c) else s (ix2 l c) := by
  unfold updTop
  by_cases h : l.val < 128
  · rw [dif_pos h, dif_pos (show 0 ≤ ((ix2 l c : (⟨2, ![n, 64]⟩ : Shape).Idx) 0).val ∧ ((ix2 l c : (⟨2, ![n, 64]⟩ : Shape).Idx) 0).val < 0 + 128 from
      ⟨Nat.zero_le _, by rw [Nat.zero_add]; exact h⟩)]
    congr 1
    funext a
    apply Fin.ext
    match a with
    | 0 => rfl
    | 1 => rfl
  · rw [dif_neg h, dif_neg (show ¬ (0 ≤ ((ix2 l c : (⟨2, ![n, 64]⟩ : Shape).Idx) 0).val ∧ ((ix2 l c : (⟨2, ![n, 64]⟩ : Shape).Idx) 0).val < 0 + 128) from
      fun e => h (by have := e.2; rw [Nat.zero_add] at this; exact this))]

/-- New keys put after the old. -/
theorem HasKeys.upd {N : Nat} {hN : N ≤ 256} {b : Fin 2} {o : Nat} {s : Vec Ideal ⟨2, ![N, 64]⟩ .f32} (hs : HasKeys h wkv wz bias hN b o s)
    {y : FVec Ideal S32x64 .f32} (hy : ∀ (g : Fin 32) (c : Fin 64) (n : Fin 256), n.val = o + g.val → y (ix2 g c) = keyOf h wkv wz bias b n c) :
    HasKeys h wkv wz bias hN b (o + 32) (updRows o s y) := by
  intro l c hl
  rw [updRows_ix2]
  by_cases hc : o ≤ l.val ∧ l.val < o + 32
  · rw [dif_pos hc]
    exact hy _ _ _ (by show l.val = o + (l.val - o); omega)
  · rw [dif_neg hc]
    exact hs l c (by omega)

theorem pay5_at (x0 : Vec Ideal S1x512x2048 .f32) (x1 x2 : Vec Ideal S64x2048 .f32) (x3 : Vec Ideal S16x64 .f32) (g : Fin 32) (c : Fin 64) :
    k0_pay5 x0 x1 x2 x3 (ix2 g c) = k0_pay3 x0 x1 x2 x3 (ix2 g c) := by
  show shapeCast S32x64 (k0_pay3 x0 x1 x2 x3) shapeCasts_S32x64_S32x64 (ix2 g c) = _
  generalize k0_pay3 x0 x1 x2 x3 = y
  pointwise

theorem pay4_at (x0 : Vec Ideal S1x512x2048 .f32) (x1 x2 : Vec Ideal S64x2048 .f32) (x3 : Vec Ideal S16x64 .f32) (g : Fin 32) (c : Fin 64) :
    k0_pay4 x0 x1 x2 x3 (ix3 0 g c) = k0_pay3 x0 x1 x2 x3 (ix2 g c) := by
  show shapeCast S1x32x64 (k0_pay3 x0 x1 x2 x3) shapeCasts_S32x64_S1x32x64 (ix3 0 g c) = _
  generalize k0_pay3 x0 x1 x2 x3 = y
  pointwise

theorem k1_pay4_at (x0 : Vec Ideal S1x512x2048 .f32) (x1 x2 : Vec Ideal S64x2048 .f32) (x3 : Vec Ideal S16x64 .f32) (g : Fin 32) (c : Fin 64) :
    k1_pay4 x0 x1 x2 x3 (ix3 0 g c) = k1_pay3 x0 x1 x2 x3 (ix2 g c) := by
  show shapeCast S1x32x64 (k1_pay3 x0 x1 x2 x3) shapeCasts_S32x64_S1x32x64 (ix3 0 g c) = _
  generalize k1_pay3 x0 x1 x2 x3 = y
  pointwise

theorem k1_pay6_at (y : FVec Ideal S32x64 .f32) (g : Fin 32) (c : Fin 64) : k1_pay6 y (ix2 g c) = y (ix2 g c) := by
  pointwise [k1_pay6]

theorem k1_pay5_at (y : Vec Ideal S1x128x64 .f32) (l : Fin 128) (c : Fin 64) : k1_pay5 y (ix2 l c) = y (ix3 0 l c) := by
  pointwise [k1_pay5]

/-- Call 0's scratch after the step. -/
theorem scr0_keys (i : grid0.Coords) {b : Fin 2} {x0 : Vec Ideal S1x512x2048 .f32} (hi : (i 1).val < 8) (hx : IsRows h b (i 1).val hi x0)
    {s : Vec Ideal S128x64 .f32} (hs : HasKeys h wkv wz bias (by decide : 128 ≤ 256) b (32 * (i 1).val) s) :
    HasKeys h wkv wz bias (by decide : 128 ≤ 256) b (32 * (i 1).val + 32) (scr0 i x0 wkv wz bias s) := by
  unfold scr0
  refine hs.upd fun g c n hn => ?_
  rw [pay5_at, comp0_at]
  exact comp_rows hx g c n hn

/-- Call 1's scratch after the step. -/
theorem scr1_keys (i : grid1.Coords) {b : Fin 2} {x0 : Vec Ideal S1x512x2048 .f32} (hi : (i 1).val + 4 < 8) (hx : IsRows h b ((i 1).val + 4) hi x0)
    {x7 : Vec Ideal S1x128x64 .f32} (h7 : ∀ (l : Fin 128) (c : Fin 64), x7 (ix3 0 l c) = keyOf h wkv wz bias b ⟨l.val, by have := l.isLt; omega⟩ c)
    {s : Vec Ideal S256x64 .f32} (hs : (i 1).val ≠ 0 → HasKeys h wkv wz bias (le_refl 256) b (128 + 32 * (i 1).val) s) :
    HasKeys h wkv wz bias (le_refl 256) b (128 + 32 * (i 1).val + 32) (scr1 i x0 wkv wz bias x7 s) := by
  unfold scr1
  refine HasKeys.upd ?_ fun g c n hn => ?_
  · by_cases h0 : (i 1).val = 0
    · rw [if_pos h0]
      intro l c hl
      rw [updTop_ix2, dif_pos (show l.val < 128 by omega), k1_pay5_at, h7]
    · rw [if_neg h0]
      exact hs h0
  · rw [k1_pay6_at, comp1_at]
    exact comp_rows hx g c n (by omega)

/-- Call 0's positions. -/
theorem idx0_at (i : grid0.Coords) {b : Fin 2} {x0 : Vec Ideal S1x512x2048 .f32} (hi : (i 1).val < 8) (hx : IsRows h b (i 1).val hi x0)
    {s : Vec Ideal S128x64 .f32} (hs : HasKeys h wkv wz bias (by decide : 128 ≤ 256) b (32 * (i 1).val + 32) s) (r : Fin 512) (j : Fin 64) :
    idx0 i x0 wdq wiuq ww s (ix3 0 r j)
      = posOf h wkv wz bias wdq wiuq ww b ⟨512 * (i 1).val + r.val, by have := r.isLt; omega⟩ j := by
  have h4 : (i 1).val < 4 := (i 1).isLt
  have hr := r.isLt
  unfold idx0
  rw [tail0_eq]
  generalize hv : sc0 _ _ _ _ _ _ = v
  have hs0 : ∀ l : Fin 128, v (ix2 r l) = masked (512 * (i 1).val + r.val) l.val
      (score wdq wiuq ww (fun k => x0 (ix3 0 r k)) (fun c => s (ix2 l c))) := fun l => by
    rw [← hv, sc0_heads _ h4, heads0_score]
  clear hv
  have hp : k0_pay1 (outs (net0 v)) (ix3 0 r j) = outs (net0 v) (ix2 r j) := by
    generalize outs (net0 v) = y
    pointwise [k0_pay1]
  rw [hp]
  unfold posOf
  refine net0_out v r j _ (fun k => ?_) fun k hk => ?_
  · rw [hs0]
    unfold scoreOf masked
    have hk := k.isLt
    by_cases hc : k.val * 16 + 15 < 512 * (i 1).val + r.val
    · rw [if_pos hc, if_pos hc, ← funext fun c => hs k c (by omega)]
      congr 1
      funext k'
      exact (hx r k').symm
    · rw [if_neg hc, if_neg hc]
  · unfold scoreOf masked
    exact if_neg (by show ¬ (k.val * 16 + 15 < 512 * (i 1).val + r.val); omega)

/-- Call 1's positions. -/
theorem idx1_at (i : grid1.Coords) {b : Fin 2} {x0 : Vec Ideal S1x512x2048 .f32} (hi : (i 1).val + 4 < 8) (hx : IsRows h b ((i 1).val + 4) hi x0)
    {s : Vec Ideal S256x64 .f32} (hs : HasKeys h wkv wz bias (le_refl 256) b (128 + 32 * (i 1).val + 32) s) (r : Fin 512) (j : Fin 64) :
    idx1 i x0 wdq wiuq ww s (ix3 0 r j)
      = posOf h wkv wz bias wdq wiuq ww b ⟨512 * ((i 1).val + 4) + r.val, by have := r.isLt; omega⟩ j := by
  have h4 : (i 1).val < 4 := (i 1).isLt
  have hr := r.isLt
  unfold idx1
  rw [tail1_eq]
  generalize hv : sc1 _ _ _ _ _ _ _ = v
  have hs0 : ∀ l : Fin 256, v (ix2 r l) = masked (512 * ((i 1).val + 4) + r.val) l.val
      (score wdq wiuq ww (fun k => x0 (ix3 0 r k)) (fun c => s (ix2 l c))) := fun l => by
    rw [← hv, sc1_heads _ h4, heads1_score]
  clear hv
  have hp : ∀ (a : FVec Ideal S512x128 .bf16) (d : IVec S512x64 1), k1_pay1 a d (ix3 0 r j)
      = select d (fptosi 32 (extractStridedSlice S512x64 ![0, 0] a slices_S512x128_o0_0_S512x64)) (broadcast S512x64 4294967295#32) (ix2 r j) := by
    intro a d
    show shapeCast S1x512x64 (select d (fptosi 32 (extractStridedSlice S512x64 ![0, 0] a slices_S512x128_o0_0_S512x64)) (broadcast S512x64 4294967295#32))
      shapeCasts_S512x64_S1x512x64 (ix3 0 r j) = _
    generalize select d (fptosi 32 (extractStridedSlice S512x64 ![0, 0] a slices_S512x128_o0_0_S512x64)) (broadcast S512x64 4294967295#32) = y
    pointwise
  rw [hp]
  refine (net1_out v r j).trans ?_
  unfold posOf
  congr 1
  funext k
  rw [hs0]
  unfold scoreOf masked
  have hk := k.isLt
  by_cases hc : k.val * 16 + 15 < 512 * ((i 1).val + 4) + r.val
  · rw [if_pos hc, if_pos hc, ← funext fun c => hs k c (by omega)]
    congr 1
    funext k'
    exact hx r k'
  · rw [if_neg hc, if_neg hc]

end

end Cert.Value

end
-- ==== Proof.Blocks.lean ====
/-
  What the two calls' windows read: each block as the argument's rows it is cut from.
-/
module

public import proofs.«01_k».proof.Proof.Steps
public import proofs.«01_k».proof.Proof.KiDats
public import Idealize.ShloMosaic.Lib.Pipeline.ValueKit
public import Idealize.ShloMosaic.Lib.Pointwise

@[expose] public section

set_option maxRecDepth 65536

noncomputable section

namespace Cert.Value

open Idealize.ShloMosaic Idealize.ShloMosaic.TcCoe
open Cert.KernelIdeal Cert.KernelIdeal.Gen Cert.KernelIdeal.Run

variable (m : (ℓ : Loc nD τ sig) → Buf (Elt Ideal) ℓ) (c : Dev nD)

/-- The arguments at the launch. -/
abbrev aH : (⟨3, ![2, 4096, 2048]⟩ : Shape).Idx → EReal := m ((c : Thread nD τ).loc main_arg0)
abbrev aKv : Mat 64 2048 := m ((c : Thread nD τ).loc main_arg2)
abbrev aZ : Mat 64 2048 := m ((c : Thread nD τ).loc main_arg4)
abbrev aB : Mat 16 64 := m ((c : Thread nD τ).loc main_arg6)
abbrev aDq : Mat 64 2048 := m ((c : Thread nD τ).loc main_arg7)
abbrev aIuq : Mat 1024 64 := m ((c : Thread nD τ).loc main_arg8)
abbrev aW : Mat 16 2048 := m ((c : Thread nD τ).loc main_arg9)

/-! ## The index maps -/

theorem at0 : ∀ t : Fin cfg0.N, (grid0.coords t 0).val = t.val / 4 ∧ (grid0.coords t 1).val = t.val % 4 :=
  (by decide +kernel : ∀ t : Fin grid0.N, _)
theorem at1 : ∀ t : Fin cfg1.N, (grid1.coords t 0).val = t.val / 4 ∧ (grid1.coords t 1).val = t.val % 4 :=
  (by decide +kernel : ∀ t : Fin grid1.N, _)
theorem N0 : cfg0.N = 8 := by decide +kernel
theorem N1 : cfg1.N = 8 := by decide +kernel

theorem ix0_rows : ∀ t : Fin cfg0.N, win0_0.index t = ![t.val / 4, t.val % 4, 0] := (by decide +kernel : ∀ t : Fin grid0.N, _)
theorem ix0_1 : ∀ t : Fin cfg0.N, win0_1.index t = ![0, 0] := (by decide +kernel : ∀ t : Fin grid0.N, _)
theorem ix0_2 : ∀ t : Fin cfg0.N, win0_2.index t = ![0, 0] := (by decide +kernel : ∀ t : Fin grid0.N, _)
theorem ix0_3 : ∀ t : Fin cfg0.N, win0_3.index t = ![0, 0] := (by decide +kernel : ∀ t : Fin grid0.N, _)
theorem ix0_4 : ∀ t : Fin cfg0.N, win0_4.index t = ![0, 0] := (by decide +kernel : ∀ t : Fin grid0.N, _)
theorem ix0_5 : ∀ t : Fin cfg0.N, win0_5.index t = ![0, 0] := (by decide +kernel : ∀ t : Fin grid0.N, _)
theorem ix0_6 : ∀ t : Fin cfg0.N, win0_6.index t = ![0, 0] := (by decide +kernel : ∀ t : Fin grid0.N, _)
theorem ix0_7 : ∀ t : Fin cfg0.N, win0_7.index t = ![t.val / 4, t.val % 4, 0] := (by decide +kernel : ∀ t : Fin grid0.N, _)
theorem ix0_8 : ∀ t : Fin cfg0.N, win0_8.index t = ![t.val / 4, t.val % 4, 0] := (by decide +kernel : ∀ t : Fin grid0.N, _)

theorem ix1_rows : ∀ t : Fin cfg1.N, win1_0.index t = ![t.val / 4, t.val % 4 + 4, 0] := (by decide +kernel : ∀ t : Fin grid1.N, _)
theorem ix1_1 : ∀ t : Fin cfg1.N, win1_1.index t = ![0, 0] := (by decide +kernel : ∀ t : Fin grid1.N, _)
theorem ix1_2 : ∀ t : Fin cfg1.N, win1_2.index t = ![0, 0] := (by decide +kernel : ∀ t : Fin grid1.N, _)
theorem ix1_3 : ∀ t : Fin cfg1.N, win1_3.index t = ![0, 0] := (by decide +kernel : ∀ t : Fin grid1.N, _)
theorem ix1_4 : ∀ t : Fin cfg1.N, win1_4.index t = ![0, 0] := (by decide +kernel : ∀ t : Fin grid1.N, _)
theorem ix1_5 : ∀ t : Fin cfg1.N, win1_5.index t = ![0, 0] := (by decide +kernel : ∀ t : Fin grid1.N, _)
theorem ix1_6 : ∀ t : Fin cfg1.N, win1_6.index t = ![0, 0] := (by decide +kernel : ∀ t : Fin grid1.N, _)
theorem ix1_7 : ∀ t : Fin cfg1.N, win1_7.index t = ![t.val / 4, 0, 0] := (by decide +kernel : ∀ t : Fin grid1.N, _)
theorem ix1_8 : ∀ t : Fin cfg1.N, win1_8.index t = ![t.val / 4, t.val % 4, 0] := (by decide +kernel : ∀ t : Fin grid1.N, _)
theorem ix1_9 : ∀ t : Fin cfg1.N, win1_9.index t = ![t.val / 4, t.val % 4, 0] := (by decide +kernel : ∀ t : Fin grid1.N, _)

/-! ## The blocks -/

/-- The batch of a point. -/
def batch (n : Nat) : Fin 2 := ⟨n / 4 % 2, Nat.mod_lt _ (by decide)⟩

theorem block0_rows (t : Fin cfg0.N) (hi : (grid0.coords t 1).val < 8) : IsRows (aH m c) (batch t.val) (grid0.coords t 1).val hi (iblk0 m c 0 t) := by
  intro r k
  have e := (at0 t).2
  have hN : t.val < 8 := N0 ▸ t.isLt
  have hb : (batch t.val).val = t.val / 4 := Nat.mod_eq_of_lt (by omega)
  blk_ext [iblk0, ix0_rows t]

theorem block0_1 (t : Fin cfg0.N) : iblk0 m c 1 t = aKv m c := by blk_ext! [iblk0, ix0_1 t]
theorem block0_2 (t : Fin cfg0.N) : iblk0 m c 2 t = aZ m c := by blk_ext! [iblk0, ix0_2 t]
theorem block0_3 (t : Fin cfg0.N) : iblk0 m c 3 t = aB m c := by blk_ext! [iblk0, ix0_3 t]
theorem block0_4 (t : Fin cfg0.N) : iblk0 m c 4 t = aDq m c := by blk_ext! [iblk0, ix0_4 t]
theorem block0_5 (t : Fin cfg0.N) : iblk0 m c 5 t = aIuq m c := by blk_ext! [iblk0, ix0_5 t]
theorem block0_6 (t : Fin cfg0.N) : iblk0 m c 6 t = aW m c := by blk_ext! [iblk0, ix0_6 t]

/-! ## The compressed keys call 0 leaves -/

/-- The keys of blocks `o`, `o + 1`, … of each batch, as an array. -/
def keyArr (o : Nat) (ho : o + 128 ≤ 256) : (⟨3, ![2, 128, 64]⟩ : Shape).Idx → EReal :=
  fun i => keyOf (aH m c) (aKv m c) (aZ m c) (aB m c) (i 0) ⟨o + (i 1).val, by have : (i 1).val < 128 := (i 1).isLt; omega⟩ (i 2)

theorem keyArr_at (o : Nat) (ho : o + 128 ≤ 256) (i : (⟨3, ![2, 128, 64]⟩ : Shape).Idx) (b : Fin 2) (n : Fin 256) (d : Fin 64)
    (h0 : (i 0).val = b.val) (h1 : o + (i 1).val = n.val) (h2 : (i 2).val = d.val) :
    keyArr m c o ho i = keyOf (aH m c) (aKv m c) (aZ m c) (aB m c) b n d := by
  unfold keyArr
  rw [show (i 0 : Fin 2) = b from Fin.ext h0, show (i 2 : Fin 64) = d from Fin.ext h2]
  congr 1
  exact Fin.ext h1

theorem ix3_surj {a b e : Nat} (y : (⟨3, ![a, b, e]⟩ : Shape).Idx) : ∃ (i : Fin a) (j : Fin b) (k : Fin e), y = ix3 i j k :=
  ⟨y 0, y 1, y 2, by funext a; match a with | 0 => rfl | 1 => rfl | 2 => rfl⟩

theorem kic0_keys : kic0 m c = keyArr m c 0 (by decide) := by
  unfold kic0
  refine (base0 m (fun _ => _) c).arrAt_eq_of_covers 7 _ (by decide +kernel) fun t hf y => ?_
  have hi : (grid0.coords t 1).val < 8 := Nat.lt_trans (show (grid0.coords t 1).val < 4 from (grid0.coords t 1).isLt) (by decide)
  have hx := block0_rows m c t hi
  have e := (at0 t).2
  have hN : t.val < 8 := N0 ▸ t.isLt
  have hb : (batch t.val).val = t.val / 4 := Nat.mod_eq_of_lt (by omega)
  obtain ⟨y0, g, d, rfl⟩ : ∃ (y0 : Fin 1) (g : Fin 32) (d : Fin 64), y = ix3 y0 g d := ix3_surj y
  have hg := g.isLt
  obtain rfl : y0 = 0 := Subsingleton.elim _ _
  blk_simp
  refine Eq.trans (b := k0_pay4 (iblk0 m c 0 t) (iblk0 m c 1 t) (iblk0 m c 2 t) (iblk0 m c 3 t) (ix3 0 g d)) rfl ?_
  rw [block0_1, block0_2, block0_3, pay4_at, comp0_at, comp_rows hx g d ⟨32 * (grid0.coords t 1).val + g.val, by omega⟩ rfl]
  refine (keyArr_at m c 0 _ _ _ _ _ ?_ ?_ ?_).symm
  · blk_simp [ix0_7 t]
    rw [hb]
    omega
  · blk_simp [ix0_7 t]
    dsimp only
    omega
  · blk_simp [ix0_7 t]

/-! ## Call 1's blocks -/

theorem V1r_arg (r : Ref sig .tc) (h : r ∉ ([main_call0_v0_0, main_call0_v0_1] : List (Ref sig .tc))) : V1r m c r = m ((c : Thread nD τ).loc r) := W1_of m c _ _ r h

theorem V1r_keys : V1r m c main_call0_v0_0 = keyArr m c 0 (by decide) := (W1_kic m c _ _).trans (kic0_keys m c)

theorem block1_rows (t : Fin cfg1.N) (hi : (grid1.coords t 1).val + 4 < 8) : IsRows (aH m c) (batch t.val) ((grid1.coords t 1).val + 4) hi (iblk1 m c 0 t) := by
  intro r k
  have e := (at1 t).2
  have hN : t.val < 8 := N1 ▸ t.isLt
  have hb : (batch t.val).val = t.val / 4 := Nat.mod_eq_of_lt (by omega)
  have hv := V1r_arg m c main_arg0 (by decide)
  show (win1_0.blk t).view.read (Elt Ideal) (V1r m c main_arg0) (ix3 0 r k) = _
  rw [hv]
  blk_ext [ix1_rows t]

theorem block1_1 (t : Fin cfg1.N) : iblk1 m c 1 t = aKv m c := by
  show (win1_1.blk t).view.read (Elt Ideal) (V1r m c main_arg2) = _
  rw [V1r_arg m c main_arg2 (by decide)]
  blk_ext! [ix1_1 t]
theorem block1_2 (t : Fin cfg1.N) : iblk1 m c 2 t = aZ m c := by
  show (win1_2.blk t).view.read (Elt Ideal) (V1r m c main_arg4) = _
  rw [V1r_arg m c main_arg4 (by decide)]
  blk_ext! [ix1_2 t]
theorem block1_3 (t : Fin cfg1.N) : iblk1 m c 3 t = aB m c := by
  show (win1_3.blk t).view.read (Elt Ideal) (V1r m c main_arg6) = _
  rw [V1r_arg m c main_arg6 (by decide)]
  blk_ext! [ix1_3 t]
theorem block1_4 (t : Fin cfg1.N) : iblk1 m c 4 t = aDq m c := by
  show (win1_4.blk t).view.read (Elt Ideal) (V1r m c main_arg7) = _
  rw [V1r_arg m c main_arg7 (by decide)]
  blk_ext! [ix1_4 t]
theorem block1_5 (t : Fin cfg1.N) : iblk1 m c 5 t = aIuq m c := by
  show (win1_5.blk t).view.read (Elt Ideal) (V1r m c main_arg8) = _
  rw [V1r_arg m c main_arg8 (by decide)]
  blk_ext! [ix1_5 t]
theorem block1_6 (t : Fin cfg1.N) : iblk1 m c 6 t = aW m c := by
  show (win1_6.blk t).view.read (Elt Ideal) (V1r m c main_arg9) = _
  rw [V1r_arg m c main_arg9 (by decide)]
  blk_ext! [ix1_6 t]

/-- The keys call 1 copies in are those of the batch's first 128 blocks. -/
theorem block1_7 (t : Fin cfg1.N) (l : Fin 128) (d : Fin 64) :
    iblk1 m c 7 t (ix3 0 l d) = keyOf (aH m c) (aKv m c) (aZ m c) (aB m c) (batch t.val) ⟨l.val, by have := l.isLt; omega⟩ d := by
  have hN : t.val < 8 := N1 ▸ t.isLt
  have hb : (batch t.val).val = t.val / 4 := Nat.mod_eq_of_lt (by omega)
  show (win1_7.blk t).view.read (Elt Ideal) (V1r m c main_call0_v0_0) (ix3 0 l d) = _
  rw [V1r_keys]
  blk_simp
  refine keyArr_at m c 0 _ _ _ _ _ ?_ ?_ ?_
  · blk_simp [ix1_7 t]
    rw [hb]
    omega
  · blk_simp [ix1_7 t]
  · blk_simp [ix1_7 t]

/-- The keys call 1 leaves. -/
theorem kic1_keys : kic1 m c = keyArr m c 128 (by decide) := by
  unfold kic1
  refine (base1 m (fun _ => _) c).arrAt_eq_of_covers 8 _ (by decide +kernel) fun t hf y => ?_
  have h4 : (grid1.coords t 1).val < 4 := (grid1.coords t 1).isLt
  have hi : (grid1.coords t 1).val + 4 < 8 := by omega
  have hx := block1_rows m c t hi
  have e := (at1 t).2
  have hN : t.val < 8 := N1 ▸ t.isLt
  have hb : (batch t.val).val = t.val / 4 := Nat.mod_eq_of_lt (by omega)
  obtain ⟨y0, g, d, rfl⟩ : ∃ (y0 : Fin 1) (g : Fin 32) (d : Fin 64), y = ix3 y0 g d := ix3_surj y
  have hg := g.isLt
  obtain rfl : y0 = 0 := Subsingleton.elim _ _
  blk_simp
  refine Eq.trans (b := k1_pay4 (iblk1 m c 0 t) (iblk1 m c 1 t) (iblk1 m c 2 t) (iblk1 m c 3 t) (ix3 0 g d)) rfl ?_
  rw [block1_1, block1_2, block1_3, k1_pay4_at, comp1_at, comp_rows hx g d ⟨32 * ((grid1.coords t 1).val + 4) + g.val, by omega⟩ rfl]
  refine (keyArr_at m c 128 _ _ _ _ _ ?_ ?_ ?_).symm
  · blk_simp [ix1_8 t]
    rw [hb]
    omega
  · blk_simp [ix1_8 t]
    dsimp only
    omega
  · blk_simp [ix1_8 t]

end Cert.Value

end
-- ==== Proof.Tracked.lean ====
/-
  What the two calls leave: the scratch rows tracked from point to point, and the two arrays of positions.
-/
module

public import proofs.«01_k».proof.Proof.Blocks
public import proofs.«01_k».proof.Proof.KiMain
public import Idealize.ShloMosaic.Lib.Claim

@[expose] public section

set_option maxRecDepth 65536

noncomputable section

namespace Cert.Value

open Idealize.ShloMosaic Idealize.ShloMosaic.TcCoe Idealize.SL.Sem
open Cert.KernelIdeal Cert.KernelIdeal.Gen Cert.KernelIdeal.Run

variable (m : (ℓ : Loc nD τ sig) → Buf (Elt Ideal) ℓ) (c : Dev nD)

/-- The scratch before point `n` of call 0: the keys of the batch's blocks so far. -/
def Keys0 (n : Nat) (s : Vec Ideal S128x64 .f32) : Prop :=
  HasKeys (aH m c) (aKv m c) (aZ m c) (aB m c) (by decide : 128 ≤ 256) (batch n) (32 * (n % 4)) s

/-- The scratch before point `n` of call 1; at a batch's first point nothing is known. -/
def Keys1 (n : Nat) (s : Vec Ideal S256x64 .f32) : Prop :=
  n % 4 ≠ 0 → HasKeys (aH m c) (aKv m c) (aZ m c) (aB m c) (le_refl 256) (batch n) (128 + 32 * (n % 4)) s

/-- The positions of row `t` of batch `b`. -/
abbrev posAt (b : Fin 2) (t : Fin 4096) (j : Fin 64) : BitVec 32 := posOf (aH m c) (aKv m c) (aZ m c) (aB m c) (aDq m c) (aIuq m c) (aW m c) b t j

/-- A block of positions: those of 512 rows, the `i`-th block of batch `b`. -/
def PosBlock (b : Fin 2) (i : Nat) (X : Vec Ideal S1x512x64 .i32) : Prop :=
  ∀ (r : Fin 512) (j : Fin 64) (t : Fin 4096), t.val = 512 * i + r.val → X (ix3 0 r j) = posAt m c b t j

/-- The next point is of the same batch, or starts one. -/
theorem next_batch (n : Nat) (h : (n + 1) % 4 ≠ 0) : batch (n + 1) = batch n ∧ (n + 1) % 4 = n % 4 + 1 :=
  ⟨Fin.ext (by show (n + 1) / 4 % 2 = n / 4 % 2; congr 1; omega), by omega⟩

theorem step0 (t : Fin cfg0.N) (s : Vec Ideal S128x64 .f32) (hs : Keys0 m c t.val s) :
    Keys0 m c (t.val + 1) (scr0 (grid0.coords t) (iblk0 m c 0 t) (iblk0 m c 1 t) (iblk0 m c 2 t) (iblk0 m c 3 t) s)
      ∧ PosBlock m c (batch t.val) (t.val % 4) (idx0 (grid0.coords t) (iblk0 m c 0 t) (iblk0 m c 4 t) (iblk0 m c 5 t) (iblk0 m c 6 t)
          (scr0 (grid0.coords t) (iblk0 m c 0 t) (iblk0 m c 1 t) (iblk0 m c 2 t) (iblk0 m c 3 t) s)) := by
  have h4 : (grid0.coords t 1).val < 4 := (grid0.coords t 1).isLt
  have hi : (grid0.coords t 1).val < 8 := by omega
  have hx := block0_rows m c t hi
  have e := (at0 t).2
  rw [block0_1, block0_2, block0_3, block0_4, block0_5, block0_6]
  have hs' : HasKeys (aH m c) (aKv m c) (aZ m c) (aB m c) (by decide : 128 ≤ 256) (batch t.val) (32 * (grid0.coords t 1).val) s := by
    rw [e]; exact hs
  have hk := scr0_keys (grid0.coords t) hi hx hs'
  generalize scr0 (grid0.coords t) (iblk0 m c 0 t) (aKv m c) (aZ m c) (aB m c) s = s' at hk
  refine ⟨?_, fun r j t' ht => ?_⟩
  · unfold Keys0
    by_cases h0 : (t.val + 1) % 4 = 0
    · intro l d hl
      rw [h0] at hl
      exact absurd hl (Nat.not_lt_zero _)
    · rw [(next_batch _ h0).1, (next_batch _ h0).2, Nat.mul_add, ← e]
      exact hk
  · rw [idx0_at (grid0.coords t) hi hx hk r j]
    unfold posAt
    congr 1
    exact Fin.ext (by rw [ht, ← e])

theorem step1 (t : Fin cfg1.N) (s : Vec Ideal S256x64 .f32) (hs : Keys1 m c t.val s) :
    Keys1 m c (t.val + 1) (scr1 (grid1.coords t) (iblk1 m c 0 t) (iblk1 m c 1 t) (iblk1 m c 2 t) (iblk1 m c 3 t) (iblk1 m c 7 t) s)
      ∧ PosBlock m c (batch t.val) (t.val % 4 + 4) (idx1 (grid1.coords t) (iblk1 m c 0 t) (iblk1 m c 4 t) (iblk1 m c 5 t) (iblk1 m c 6 t)
          (scr1 (grid1.coords t) (iblk1 m c 0 t) (iblk1 m c 1 t) (iblk1 m c 2 t) (iblk1 m c 3 t) (iblk1 m c 7 t) s)) := by
  have h4 : (grid1.coords t 1).val < 4 := (grid1.coords t 1).isLt
  have hi : (grid1.coords t 1).val + 4 < 8 := by omega
  have hx := block1_rows m c t hi
  have e := (at1 t).2
  rw [block1_1, block1_2, block1_3, block1_4, block1_5, block1_6]
  have hs' : (grid1.coords t 1).val ≠ 0 →
      HasKeys (aH m c) (aKv m c) (aZ m c) (aB m c) (le_refl 256) (batch t.val) (128 + 32 * (grid1.coords t 1).val) s := by
    rw [e]; exact hs
  have hk := scr1_keys (grid1.coords t) hi hx (block1_7 m c t) hs'
  generalize scr1 (grid1.coords t) (iblk1 m c 0 t) (aKv m c) (aZ m c) (aB m c) (iblk1 m c 7 t) s = s' at hk
  refine ⟨fun h0 => ?_, fun r j t' ht => ?_⟩
  · rw [(next_batch _ h0).1, (next_batch _ h0).2, Nat.mul_add, ← Nat.add_assoc, ← e]
    exact hk
  · rw [idx1_at (grid1.coords t) hi hx hk r j]
    unfold posAt
    congr 1
    exact Fin.ext (by rw [ht, ← e])

/-- What is tracked of the two calls. -/
def tracked : Track m where
  I0 c n s := Keys0 m c n s
  Q0 c t X := PosBlock m c (batch t.val) (t.val % 4) X
  I1 c n s := Keys1 m c n s
  Q1 c t X := PosBlock m c (batch t.val) (t.val % 4 + 4) X
  start0 c s := fun l d hl => absurd hl (Nat.not_lt_zero _)
  start1 c s := fun h => absurd rfl h
  step0 c t s hs := step0 m c t s hs
  step1 c t s hs := step1 m c t s hs

/-! ## The arrays of positions -/

/-- The positions of the rows from `o`, as an array. -/
def posArr (o : Nat) (ho : o + 2048 ≤ 4096) : (⟨3, ![2, 2048, 64]⟩ : Shape).Idx → BitVec 32 :=
  fun i => posAt m c (i 0) ⟨o + (i 1).val, by have : (i 1).val < 2048 := (i 1).isLt; omega⟩ (i 2)

theorem posArr_at (o : Nat) (ho : o + 2048 ≤ 4096) (i : (⟨3, ![2, 2048, 64]⟩ : Shape).Idx) (b : Fin 2) (n : Fin 4096) (d : Fin 64)
    (h0 : (i 0).val = b.val) (h1 : o + (i 1).val = n.val) (h2 : (i 2).val = d.val) : posArr m c o ho i = posAt m c b n d := by
  unfold posArr
  rw [show (i 0 : Fin 2) = b from Fin.ext h0, show (i 2 : Fin 64) = d from Fin.ext h2]
  congr 1
  exact Fin.ext h1

theorem pos0 (o : Buf (Elt Ideal) ((c : Thread nD τ).loc main_call0_v0_1)) (h : Ok0 m (tracked m) c o) : o = posArr m c 0 (by decide) := by
  obtain ⟨X, hX, hA⟩ := Pipeline.RDat.ArrAt.exists_exact h
  rw [hA (Function.update (fun _ _ _ => Classical.arbitrary _) 8 X) fun _ _ _ => by rw [Function.update_self]]
  refine Pipeline.Dat.arrAt_eq_of_covers _ 8 _ (by decide +kernel) fun t hf y => ?_
  have hq : PosBlock m c (batch t.val) (t.val % 4) (X t) := Pipeline.Dat.toRRel_leaves (dat := dat0 m (tracked m) c) rfl (hX t t.isLt hf)
  have hN : t.val < 8 := N0 ▸ t.isLt
  have hb : (batch t.val).val = t.val / 4 := Nat.mod_eq_of_lt (by omega)
  obtain ⟨y0, r, j, rfl⟩ : ∃ (y0 : Fin 1) (r : Fin 512) (j : Fin 64), y = ix3 y0 r j := ix3_surj y
  have hr := r.isLt
  obtain rfl : y0 = 0 := Subsingleton.elim _ _
  blk_simp
  rw [Pipeline.RDat.withAfter_after, Function.update_self]
  refine (hq r j ⟨512 * (t.val % 4) + r.val, by omega⟩ rfl).trans (posArr_at m c 0 _ _ _ _ _ ?_ ?_ ?_).symm
  · blk_simp [ix0_8 t]
    rw [hb]
    omega
  · blk_simp [ix0_8 t]
    dsimp only
    omega
  · blk_simp [ix0_8 t]

theorem pos1 (o : Buf (Elt Ideal) ((c : Thread nD τ).loc main_call0_v1_1)) (h : Ok1 m (tracked m) c o) : o = posArr m c 2048 (by decide) := by
  obtain ⟨X, hX, hA⟩ := Pipeline.RDat.ArrAt.exists_exact h
  rw [hA (Function.update (fun _ _ _ => Classical.arbitrary _) 9 X) fun _ _ _ => by rw [Function.update_self]]
  refine Pipeline.Dat.arrAt_eq_of_covers _ 9 _ (by decide +kernel) fun t hf y => ?_
  have hq : PosBlock m c (batch t.val) (t.val % 4 + 4) (X t) := Pipeline.Dat.toRRel_leaves (dat := dat1 m (tracked m) c) rfl (hX t t.isLt hf)
  have hN : t.val < 8 := N1 ▸ t.isLt
  have hb : (batch t.val).val = t.val / 4 := Nat.mod_eq_of_lt (by omega)
  obtain ⟨y0, r, j, rfl⟩ : ∃ (y0 : Fin 1) (r : Fin 512) (j : Fin 64), y = ix3 y0 r j := ix3_surj y
  have hr := r.isLt
  obtain rfl : y0 = 0 := Subsingleton.elim _ _
  blk_simp
  rw [Pipeline.RDat.withAfter_after, Function.update_self]
  refine (hq r j ⟨512 * (t.val % 4 + 4) + r.val, by omega⟩ rfl).trans (posArr_at m c 2048 _ _ _ _ _ ?_ ?_ ?_).symm
  · blk_simp [ix1_9 t]
    rw [hb]
    omega
  · blk_simp [ix1_9 t]
    dsimp only
    omega
  · blk_simp [ix1_9 t]

/-! ## The results -/

/-- The compressed keys, all of them. -/
def keysAll : (⟨3, ![2, 256, 64]⟩ : Shape).Idx → EReal := fun i => keyOf (aH m c) (aKv m c) (aZ m c) (aB m c) (i 0) (i 1) (i 2)

/-- The positions, all of them. -/
def posAll : (⟨3, ![2, 4096, 64]⟩ : Shape).Idx → BitVec 32 := fun i => posAt m c (i 0) (i 1) (i 2)

theorem out0 (γ : Gam m (tracked m) c) : StableHlo.after hostOps2 (VG m (tracked m) c γ) main_v0_0 = keysAll m c := by
  have h0 : VG m (tracked m) c γ main_call0_v0_0 = keyArr m c 0 (by decide) :=
    (W2_of m c _ _ _ _ main_call0_v0_0 (by decide)).trans ((W1_kic m c _ _).trans (kic0_keys m c))
  have h1 : VG m (tracked m) c γ main_call0_v1_0 = keyArr m c 128 (by decide) := (W2_kic m c _ _ _ _).trans (kic1_keys m c)
  have e : StableHlo.after hostOps2 (VG m (tracked m) c γ) main_v0_0
      = concatenate S2x256x64 1 [⟨S2x128x64, keyArr m c 0 (by decide)⟩, ⟨S2x128x64, keyArr m c 128 (by decide)⟩] concatenates_S2x128x64_S2x128x64_S2x256x64_d1 := by
    rw [← h0, ← h1]
    unfold_abbrev_sides
    after_results
    rfl
  rw [e]
  funext i
  obtain ⟨b, n, d, rfl⟩ : ∃ (b : Fin 2) (n : Fin 256) (d : Fin 64), i = ix3 b n d := ix3_surj i
  pointwise
  split
  · exact keyArr_at m c 0 _ _ _ _ _ rfl (Nat.zero_add _) rfl
  · exact keyArr_at m c 128 _ _ _ _ _ rfl (by show 128 + (n.val - 128) = n.val; omega) rfl

theorem out1 (γ : Gam m (tracked m) c) : StableHlo.after hostOps2 (VG m (tracked m) c γ) main_v0_1 = posAll m c := by
  have h0 : VG m (tracked m) c γ main_call0_v0_1 = posArr m c 0 (by decide) :=
    (W2_of m c _ _ _ _ main_call0_v0_1 (by decide)).trans ((W1_idx m c _ _).trans (pos0 m c _ γ.2.1))
  have h1 : VG m (tracked m) c γ main_call0_v1_1 = posArr m c 2048 (by decide) := (W2_idx m c _ _ _ _).trans (pos1 m c _ γ.2.2)
  have e : StableHlo.after hostOps2 (VG m (tracked m) c γ) main_v0_1
      = concatenate S2x4096x64 1 [⟨S2x2048x64, posArr m c 0 (by decide)⟩, ⟨S2x2048x64, posArr m c 2048 (by decide)⟩] concatenates_S2x2048x64_S2x2048x64_S2x4096x64_d1 := by
    rw [← h0, ← h1]
    unfold_abbrev_sides
    after_results
    rfl
  rw [e]
  funext i
  obtain ⟨b, n, d, rfl⟩ : ∃ (b : Fin 2) (n : Fin 4096) (d : Fin 64), i = ix3 b n d := ix3_surj i
  pointwise
  split
  · exact posArr_at m c 0 _ _ _ _ _ rfl (Nat.zero_add _) rfl
  · exact posArr_at m c 2048 _ _ _ _ _ rfl (by show 2048 + (n.val - 2048) = n.val; omega) rfl

/-- Every execution of the idealized kernel leaves these two arrays, its arguments as launched. -/
theorem runs (ρ : Dev nD → PrngReg) : θ_run defs (onTc (τ := τ) (main (F := Ideal))) ⟨m, fun _ => 0, ρ⟩ (fun r => (∀ c : Dev nD,
      r.2.mem ((c.tc : Thread nD τ).loc main_v0_0) = keysAll m c ∧ r.2.mem ((c.tc : Thread nD τ).loc main_v0_1) = posAll m c
      ∧ (r.2.mem ((c.tc : Thread nD τ).loc main_arg0) = m ((c.tc : Thread nD τ).loc main_arg0) ∧ r.2.mem ((c.tc : Thread nD τ).loc main_arg1) = m ((c.tc : Thread nD τ).loc main_arg1)
      ∧ r.2.mem ((c.tc : Thread nD τ).loc main_arg2) = m ((c.tc : Thread nD τ).loc main_arg2) ∧ r.2.mem ((c.tc : Thread nD τ).loc main_arg3) = m ((c.tc : Thread nD τ).loc main_arg3)
      ∧ r.2.mem ((c.tc : Thread nD τ).loc main_arg4) = m ((c.tc : Thread nD τ).loc main_arg4) ∧ r.2.mem ((c.tc : Thread nD τ).loc main_arg5) = m ((c.tc : Thread nD τ).loc main_arg5)
      ∧ r.2.mem ((c.tc : Thread nD τ).loc main_arg6) = m ((c.tc : Thread nD τ).loc main_arg6) ∧ r.2.mem ((c.tc : Thread nD τ).loc main_arg7) = m ((c.tc : Thread nD τ).loc main_arg7)
      ∧ r.2.mem ((c.tc : Thread nD τ).loc main_arg8) = m ((c.tc : Thread nD τ).loc main_arg8) ∧ r.2.mem ((c.tc : Thread nD τ).loc main_arg9) = m ((c.tc : Thread nD τ).loc main_arg9))) ∧ r.2.sem = fun _ => 0) :=
  (θ_run defs _ _).mono (fun r h => ⟨fun c =>
    let ⟨⟨γ, e0, e1⟩, hargs⟩ := h.1 c
    ⟨e0.trans (out0 m c γ), e1.trans (out1 m c γ), hargs⟩, h.2⟩) (Cert.KernelIdeal.Run.run m ρ (tracked m))

end Cert.Value

end
-- ==== Proof.RefRows.lean ====
/-
  The reference's two results at an index, in the same plain sums.
-/
module

public import proofs.«01_k».proof.Proof.Payloads
public import proofs.«01_k».proof.Proof.Gen.ReferenceIdeal.Run

@[expose] public section

set_option maxRecDepth 65536

noncomputable section

namespace Cert.Value

open Idealize.ShloMosaic Idealize.ShloMosaic.SortNet
open Cert.ReferenceIdeal Cert.ReferenceIdeal.Gen

/-- The rows. -/
abbrev Rows : Type := FVec Ideal S2x4096x2048 .f32

/-- The rows' values against 64 columns, in blocks. -/
def refCols (h : Rows) (wz : FVec Ideal S64x2048 .f32) : FVec Ideal S2x256x16x64 .f32 :=
  shapeCast _ (Host.dotGeneral dot_S2x4096x2048_S2048x64_S2x4096x64_2_0_01_1_n_n none h (transpose S2048x64 [1, 0] wz transposes_S64x2048_S2048x64_1_0)) shapeCasts_S2x4096x64_S2x256x16x64

/-- The gates, in blocks. -/
def refGate (h : Rows) (wz : FVec Ideal S64x2048 .f32) (bias : FVec Ideal S16x64 .f32) : FVec Ideal S2x256x16x64 .f32 :=
  addf (refCols h wz) (broadcastInDim S2x256x16x64 ![0, 1, 2, 3] bcast_S1x1x16x64_S2x256x16x64_0_1_2_3 (broadcastInDim S1x1x16x64 ![2, 3] bcast_S16x64_S1x1x16x64_2_3 bias))

/-- The gates' exponentials, each block's greatest gate subtracted. -/
def refExp (g : FVec Ideal S2x256x16x64 .f32) : FVec Ideal S2x256x16x64 .f32 :=
  Host.exp (subf g (broadcastInDim S2x256x16x64 ![0, 1, 2, 3] bcast_S2x256x1x64_S2x256x16x64_0_1_2_3 (broadcastInDim S2x256x1x64 ![0, 1, 3] bcast_S2x256x64_S2x256x1x64_0_1_3 (maximumf (broadcastInDim S2x256x64 ![] bcast_S_S2x256x64 (constant S_ .f32 0xFF800000#32)) (Host.reduce FloatOps.maximumf g (constant S_ .f32 0xFF800000#32) reducesTo_S2x256x16x64_S2x256x64_d2 h_S_)))))

/-- The compressed keys. -/
def refComp (h : Rows) (wkv wz : FVec Ideal S64x2048 .f32) (bias : FVec Ideal S16x64 .f32) : FVec Ideal S2x256x64 .f32 :=
  Host.reduceAdd (mulf (Host.divf (refExp (refGate h wz bias)) (broadcastInDim S2x256x16x64 ![0, 1, 2, 3] bcast_S2x256x1x64_S2x256x16x64_0_1_2_3 (broadcastInDim S2x256x1x64 ![0, 1, 3] bcast_S2x256x64_S2x256x1x64_0_1_3 (Host.reduceAdd (refExp (refGate h wz bias)) (constant S_ .f32 0x00000000#32) reducesTo_S2x256x16x64_S2x256x64_d2 h_S_)))) (refCols h wkv)) (constant S_ .f32 0x00000000#32) reducesTo_S2x256x16x64_S2x256x64_d2 h_S_

/-- The scores. -/
def refScore (h : Rows) (wdq : FVec Ideal S64x2048 .f32) (wiuq : FVec Ideal S1024x64 .f32) (ww : FVec Ideal S16x2048 .f32) (K : FVec Ideal S2x256x64 .f32) : FVec Ideal S2x4096x256 .f32 :=
  Host.reduceAdd (mulf (broadcastInDim S2x4096x16x256 ![0, 1, 2, 3] bcast_S2x4096x16x1_S2x4096x16x256_0_1_2_3 (broadcastInDim S2x4096x16x1 ![0, 1, 2] bcast_S2x4096x16_S2x4096x16x1_0_1_2 (Host.dotGeneral dot_S2x4096x2048_S2048x16_S2x4096x16_2_0_01_1_n_n none h (transpose S2048x16 [1, 0] ww transposes_S16x2048_S2048x16_1_0)))) (maximumf (Host.dotGeneral dot_S2x4096x16x64_S2x256x64_S2x4096x16x256_3_2_12_1_0_0 none (shapeCast _ (Host.dotGeneral dot_S2x4096x64_S64x1024_S2x4096x1024_2_0_01_1_n_n none (Host.dotGeneral dot_S2x4096x2048_S2048x64_S2x4096x64_2_0_01_1_n_n none h (transpose S2048x64 [1, 0] wdq transposes_S64x2048_S2048x64_1_0)) (transpose S64x1024 [1, 0] wiuq transposes_S1024x64_S64x1024_1_0)) shapeCasts_S2x4096x1024_S2x4096x16x64) K) (broadcastInDim S2x4096x16x256 ![] bcast_S_S2x4096x16x256 (constant S_ .f32 0x00000000#32)))) (constant S_ .f32 0x00000000#32) reducesTo_S2x4096x16x256_S2x4096x256_d2 h_S_

/-- The scores, masked to the blocks that end before the row. -/
def refMasked (sc : FVec Ideal S2x4096x256 .f32) : FVec Ideal S2x4096x256 .f32 :=
  select (broadcastInDim S2x4096x256 ![0, 1, 2] bcast_S1x4096x256_S2x4096x256_0_1_2 (broadcastInDim S1x4096x256 ![1, 2] bcast_S4096x256_S1x4096x256_1_2 (cmpi .slt (broadcastInDim S4096x256 ![0, 1] bcast_S1x256_S4096x256_0_1 (addi (muli (broadcastInDim S1x256 ![1] bcast_S256_S1x256_1 (iotaInDim S256 32 0)) (broadcastInDim S1x256 ![] bcast_S_S1x256 (constantI S_ 32 16#32))) (broadcastInDim S1x256 ![] bcast_S_S1x256 (constantI S_ 32 15#32)))) (broadcastInDim S4096x256 ![0, 1] bcast_S4096x1_S4096x256_0_1 (broadcastInDim S4096x1 ![0] bcast_S4096_S4096x1_0 (iotaInDim S4096 32 0))))))
    sc (broadcastInDim S2x4096x256 ![] bcast_S_S2x4096x256 (constant S_ .f32 0xFF800000#32))

/-- The chosen blocks. -/
def refTop (sc : FVec Ideal S2x4096x256 .f32) : IVec S2x4096x64 32 :=
  select (cmpf .olt (Host.absf ((Host.topK S2x4096x64 2 (FloatOps.cmpfTotal .gt) sc sliceFits_S2x4096x256_S2x4096x64).1)) (broadcastInDim S2x4096x64 ![] bcast_S_S2x4096x64 (constant (F := Ideal) S_ .f32 0x7F800000#32)))
    ((Host.topK S2x4096x64 2 (FloatOps.cmpfTotal .gt) sc sliceFits_S2x4096x256_S2x4096x64).2) (broadcastInDim S2x4096x64 ![] bcast_S_S2x4096x64 (constantI S_ 32 4294967295#32))

theorem refCols_at (h : Rows) (wz : FVec Ideal S64x2048 .f32) (b : Fin 2) (n : Fin 256) (x : Fin 16) (c : Fin 64) :
    refCols h wz (ix4 b n x c) = ∑ k, h (ix3 b ⟨n.val * 16 + x.val, by have := n.isLt; have := x.isLt; omega⟩ k) * wz (ix2 c k) := by
  pointwise [refCols]

theorem refGate_at (h : Rows) (wz : FVec Ideal S64x2048 .f32) (bias : FVec Ideal S16x64 .f32) (b : Fin 2) (n : Fin 256) (x : Fin 16) (c : Fin 64) :
    refGate h wz bias (ix4 b n x c) = gate wz bias (fun x k => h (ix3 b ⟨n.val * 16 + x.val, by have := n.isLt; have := x.isLt; omega⟩ k)) c x := by
  pointwise [refGate]
  rw [refCols_at]
  rfl

theorem refExp_at (g : FVec Ideal S2x256x16x64 .f32) (b : Fin 2) (n : Fin 256) (x : Fin 16) (c : Fin 64) :
    refExp g (ix4 b n x c) = Ideal.exp (g (ix4 b n x c) - Finset.univ.fold max ⊥ fun y => g (ix4 b n y c)) := by
  pointwise [refExp]
  rw [ofBits_neg_inf, max_eq_right bot_le]

theorem refComp_at (h : Rows) (wkv wz : FVec Ideal S64x2048 .f32) (bias : FVec Ideal S16x64 .f32) (b : Fin 2) (n : Fin 256) (c : Fin 64) :
    refComp h wkv wz bias (ix3 b n c) = comp wkv wz bias (fun x k => h (ix3 b ⟨n.val * 16 + x.val, by have := n.isLt; have := x.isLt; omega⟩ k)) c := by
  pointwise [refComp]
  simp only [refExp_at, refGate_at, refCols_at]
  rfl

theorem refScore_at (h : Rows) (wdq : FVec Ideal S64x2048 .f32) (wiuq : FVec Ideal S1024x64 .f32) (ww : FVec Ideal S16x2048 .f32) (K : FVec Ideal S2x256x64 .f32)
    (b : Fin 2) (t : Fin 4096) (n : Fin 256) :
    refScore h wdq wiuq ww K (ix3 b t n) = score wdq wiuq ww (fun k => h (ix3 b t k)) (fun c => K (ix3 b n c)) := by
  pointwise [refScore]
  unfold score query
  refine Finset.sum_congr rfl fun a _ => ?_
  rw [mul_comm]
  simp only [Nat.mul_comm a.val 64]

theorem refMasked_at (sc : FVec Ideal S2x4096x256 .f32) (b : Fin 2) (t : Fin 4096) (n : Fin 256) :
    refMasked sc (ix3 b t n) = masked t.val n.val (sc (ix3 b t n)) := by
  pointwise [refMasked]
  have e1 : IntOp.addi (IntOp.muli (BitVec.ofNat 32 n.val) 16#32) 15#32 = BitVec.ofNat 32 (n.val * 16 + 15) := by
    rw [BitVec.ofNat_add, BitVec.ofNat_mul]; rfl
  have hn := n.isLt
  have ht := t.isLt
  rw [e1, WordCmp.cmpi_slt_ofNat (by omega) (by omega), ofBits_neg_inf]
  unfold masked
  by_cases h : n.val * 16 + 15 < t.val
  · rw [if_pos h, decide_eq_true h]; rfl
  · rw [if_neg h, decide_eq_false h]; rfl

theorem along_row (b : Fin 2) (t : Fin 4096) (n k : Fin 256) : (ix3 b t n : S2x4096x256.Idx).along 2 k = ix3 b t k := by
  funext d
  match d with
  | 0 => rfl
  | 1 => rfl
  | 2 => rfl

theorem gt_word (x y : EReal) : ((FloatOps.cmpfTotal (F := Ideal) (φ := .f32) .gt x y) == 1#1) = decide (y < x) := by
  show (BitVec.ofBool (decide (y < x)) == 1#1) = _
  cases decide (y < x) <;> rfl

/-- The row's lane the sort puts at `j`. -/
def topLane (sc : FVec Ideal S2x4096x256 .f32) (b : Fin 2) (t : Fin 4096) (j : Fin 64) : Fin 256 :=
  sortedFrom (fun k k' => decide (sc (ix3 b t k') < sc (ix3 b t k))) (⟨j.val, by have := j.isLt; omega⟩ : Fin 256)

/-- The lane the sort puts at a place. -/
def sortLane (sc : FVec Ideal S2x4096x256 .f32) (J : S2x4096x256.Idx) : Fin 256 :=
  sortedFrom (fun k k' : Fin 256 => FloatOps.cmpfTotal (F := Ideal) (φ := .f32) .gt (sc (J.along 2 k)) (sc (J.along 2 k')) == 1#1) (J 2)

theorem sortLane_at (sc : FVec Ideal S2x4096x256 .f32) (b : Fin 2) (t : Fin 4096) (j : Fin 64) :
    sortLane sc (ix3 b t ⟨j.val, by have := j.isLt; omega⟩) = topLane sc b t j := by
  unfold sortLane topLane
  refine congrArg (fun B => sortedFrom B _) (funext fun k => funext fun k' => ?_)
  rw [along_row, along_row, gt_word]

theorem topK_fst (sc : FVec Ideal S2x4096x256 .f32) : (Host.topK S2x4096x64 2 (FloatOps.cmpfTotal (F := Ideal) (φ := .f32) .gt) sc sliceFits_S2x4096x256_S2x4096x64).1
    = extractStridedSlice S2x4096x64 (fun _ => 0) (fun J => sc (J.along 2 (sortLane sc J))) sliceFits_S2x4096x256_S2x4096x64 := rfl

theorem topK_snd (sc : FVec Ideal S2x4096x256 .f32) : (Host.topK S2x4096x64 2 (FloatOps.cmpfTotal (F := Ideal) (φ := .f32) .gt) sc sliceFits_S2x4096x256_S2x4096x64).2
    = extractStridedSlice S2x4096x64 (fun _ => 0) (fun J => BitVec.ofNat 32 ((J.along 2 (sortLane sc J)) 2).val) sliceFits_S2x4096x256_S2x4096x64 := rfl

theorem cut_at {α : Type} (x : S2x4096x256.Idx → α) (b : Fin 2) (t : Fin 4096) (j : Fin 64) :
    extractStridedSlice S2x4096x64 (fun _ => 0) x sliceFits_S2x4096x256_S2x4096x64 (ix3 b t j) = x (ix3 b t ⟨j.val, by have := j.isLt; omega⟩) := by
  refine congrArg x (funext fun d => ?_)
  match d with
  | 0 => exact Fin.ext (Nat.zero_add _)
  | 1 => exact Fin.ext (Nat.zero_add _)
  | 2 => exact Fin.ext (Nat.zero_add _)

theorem topK_at (sc : FVec Ideal S2x4096x256 .f32) (b : Fin 2) (t : Fin 4096) (j : Fin 64) :
    (Host.topK S2x4096x64 2 (FloatOps.cmpfTotal (F := Ideal) (φ := .f32) .gt) sc sliceFits_S2x4096x256_S2x4096x64).1 (ix3 b t j) = sc (ix3 b t (topLane sc b t j))
    ∧ (Host.topK S2x4096x64 2 (FloatOps.cmpfTotal (F := Ideal) (φ := .f32) .gt) sc sliceFits_S2x4096x256_S2x4096x64).2 (ix3 b t j) = BitVec.ofNat 32 (topLane sc b t j).val := by
  rw [topK_fst, topK_snd, cut_at, cut_at, sortLane_at, along_row]
  exact ⟨rfl, rfl⟩

theorem pos_inf : Ideal.ofBits .f32 0x7F800000#32 = ⊤ := by
  simp [Ideal.ofBits, Ideal.ieee]

/-- The reference's row, where no score is +∞. -/
theorem refTop_at (sc : FVec Ideal S2x4096x256 .f32) (b : Fin 2) (t : Fin 4096) (j : Fin 64) (h : ∀ n, sc (ix3 b t n) ≠ ⊤) :
    refTop sc (ix3 b t j) = rowOut (fun n => sc (ix3 b t n)) j := by
  pointwise [refTop]
  rw [(topK_at sc b t j).1, (topK_at sc b t j).2, pos_inf]
  show _ = keyOut (sc (ix3 b t (topLane sc b t j))) (topLane sc b t j).val
  unfold keyOut
  have hx := h (topLane sc b t j)
  generalize sc (ix3 b t (topLane sc b t j)) = x at hx
  show (if max x (-x) < ⊤ then _ else _) = _
  by_cases hb : ⊥ < x
  · rw [if_pos hb, if_pos]
    exact max_lt (lt_top_iff_ne_top.mpr hx) (lt_top_iff_ne_top.mpr fun e => (bot_lt_iff_ne_bot.mp hb) (EReal.neg_eq_top_iff.mp e))
  · rw [if_neg hb, if_neg]
    rw [not_lt, le_bot_iff.mp (not_lt.mp hb)]
    simp

end Cert.Value

end
-- ==== Proof.Finite.lean ====
/-
  Scores of finite rows and weights are finite.
-/
module

public import proofs.«01_k».proof.Proof.Payloads

@[expose] public section

set_option maxRecDepth 65536

noncomputable section

namespace Cert.Value

open Idealize.ShloMosaic

/-- A real number. -/
def IsReal (x : EReal) : Prop := ∃ r : ℝ, x = (r : EReal)

/-- A positive real number. -/
def IsPos (x : EReal) : Prop := ∃ r : ℝ, 0 < r ∧ x = (r : EReal)

theorem IsPos.isReal {x : EReal} (h : IsPos x) : IsReal x := h.elim fun r h => ⟨r, h.2⟩

theorem IsReal.ne_top {x : EReal} (h : IsReal x) : x ≠ ⊤ := by obtain ⟨r, rfl⟩ := h; exact EReal.coe_ne_top r

theorem isReal_zero : IsReal 0 := ⟨0, rfl⟩

theorem IsReal.add {x y : EReal} (hx : IsReal x) (hy : IsReal y) : IsReal (x + y) := by
  obtain ⟨a, rfl⟩ := hx; obtain ⟨b, rfl⟩ := hy; exact ⟨a + b, (EReal.coe_add a b).symm⟩

theorem IsReal.sub {x y : EReal} (hx : IsReal x) (hy : IsReal y) : IsReal (x - y) := by
  obtain ⟨a, rfl⟩ := hx; obtain ⟨b, rfl⟩ := hy; exact ⟨a - b, (EReal.coe_sub a b).symm⟩

theorem IsReal.mul {x y : EReal} (hx : IsReal x) (hy : IsReal y) : IsReal (x * y) := by
  obtain ⟨a, rfl⟩ := hx; obtain ⟨b, rfl⟩ := hy; exact ⟨a * b, (EReal.coe_mul a b).symm⟩

theorem IsReal.max {x y : EReal} (hx : IsReal x) (hy : IsReal y) : IsReal (max x y) := by
  rcases max_choice x y with h | h <;> rw [h] <;> assumption

theorem isReal_sum {n : Nat} (f : Fin n → EReal) (h : ∀ i, IsReal (f i)) : IsReal (∑ i, f i) :=
  Finset.sum_induction f IsReal (fun _ _ => IsReal.add) isReal_zero fun i _ => h i

theorem isPos_sum {n : Nat} (f : Fin (n + 1) → EReal) (h : ∀ i, IsPos (f i)) : IsPos (∑ i, f i) :=
  Finset.sum_induction_nonempty f IsPos (fun _ _ ⟨a, ha, ea⟩ ⟨b, hb, eb⟩ => ⟨a + b, add_pos ha hb, by rw [ea, eb, EReal.coe_add]⟩)
    Finset.univ_nonempty fun i _ => h i

theorem isReal_fold {n : Nat} (f : Fin (n + 1) → EReal) (h : ∀ i, IsReal (f i)) : IsReal (Finset.univ.fold max ⊥ f) := by
  have key : ∀ s : Finset (Fin (n + 1)), s.fold max ⊥ f = ⊥ ∧ s = ∅ ∨ IsReal (s.fold max ⊥ f) := by
    intro s
    induction s using Finset.induction_on with
    | empty => exact Or.inl ⟨Finset.fold_empty, rfl⟩
    | insert a s ha ih =>
      right
      rw [Finset.fold_insert ha]
      rcases ih with ⟨e, _⟩ | ih
      · rw [e, max_eq_left bot_le]; exact h a
      · exact (h a).max ih
  rcases key Finset.univ with ⟨_, e⟩ | h
  · exact absurd e Finset.univ_nonempty.ne_empty
  · exact h

theorem IsReal.exp {x : EReal} (h : IsReal x) : IsPos (Ideal.exp x) := by
  obtain ⟨r, rfl⟩ := h; exact ⟨Real.exp r, Real.exp_pos r, rfl⟩

theorem IsReal.div {x y : EReal} (hx : IsReal x) (hy : IsPos y) : IsReal (Ideal.div x y) := by
  obtain ⟨b, hb, rfl⟩ := hy
  rw [Ideal.div_coe hb.ne']
  exact hx.mul ⟨_, rfl⟩

variable {wkv wz wdq : Mat 64 2048} {bias : Mat 16 64} {wiuq : Mat 1024 64} {ww : Mat 16 2048}

theorem comp_real (hk : ∀ i, IsReal (wkv i)) (hz : ∀ i, IsReal (wz i)) (hb : ∀ i, IsReal (bias i)) {X : Fin 16 → Fin 2048 → EReal}
    (hX : ∀ x k, IsReal (X x k)) (c : Fin 64) : IsReal (comp wkv wz bias X c) := by
  have hg : ∀ x, IsReal (gate wz bias X c x) := fun x => (isReal_sum _ fun k => (hX x k).mul (hz _)).add (hb _)
  have he : ∀ x, IsPos (egate wz bias X c x) := fun x => ((hg x).sub (isReal_fold _ hg)).exp
  exact isReal_sum _ fun x => ((he x).isReal.div (isPos_sum _ he)).mul (isReal_sum _ fun k => (hX x k).mul (hk _))

theorem score_real (hd : ∀ i, IsReal (wdq i)) (hu : ∀ i, IsReal (wiuq i)) (hw : ∀ i, IsReal (ww i)) {x : Fin 2048 → EReal} (hx : ∀ k, IsReal (x k))
    {key : Fin 64 → EReal} (hkey : ∀ c, IsReal (key c)) : IsReal (score wdq wiuq ww x key) := by
  have hq : ∀ e, IsReal (query wdq wiuq x e) := fun e => isReal_sum _ fun d => (isReal_sum _ fun k => (hx k).mul (hd _)).mul (hu _)
  exact isReal_sum _ fun n => ((isReal_sum _ fun c => (hq _).mul (hkey c)).max isReal_zero).mul (isReal_sum _ fun k => (hx k).mul (hw _))

/-- A number whose absolute value is under +∞. -/
theorem isReal_of_abs {x : EReal} (h : Ideal.cmp .olt (max x (-x)) ⊤ = 1#1) : IsReal x := by
  have h' : max x (-x) < ⊤ := by
    have : BitVec.ofBool (decide (max x (-x) < ⊤)) = 1#1 := h
    by_contra hc
    rw [decide_eq_false hc] at this
    exact absurd this (by decide)
  induction x with
  | bot => simp at h'
  | top => simp at h'
  | coe r => exact ⟨r, rfl⟩

end Cert.Value

end
-- ==== Proof.Agree.lean ====
/-
  The reference's two results are the kernel's, the arguments being finite.
-/
module

public import proofs.«01_k».proof.Defs
public import proofs.«01_k».proof.Proof.Tracked
public import proofs.«01_k».proof.Proof.RefRows
public import proofs.«01_k».proof.Proof.Finite
public import proofs.«01_k».proof.Proof.Gen.ReferenceIdeal.Run

@[expose] public section

set_option maxRecDepth 65536

noncomputable section

namespace Cert.Value

open Idealize.ShloMosaic Idealize.ShloMosaic.TcCoe Idealize.SL.Sem

/-! ## The precondition -/

/-- The shape relations the precondition takes. -/
theorem preFacts : Cert.Pre_finite_inputs.Facts where
  bcast_S_S2x4096x2048 := by decide
  bcast_S_S64x2048 := by decide
  bcast_S_S16x64 := by decide
  bcast_S_S1024x64 := by decide
  bcast_S_S16x2048 := by decide

/-- An array whose magnitudes are all below +∞ holds real numbers. -/
theorem reals_of_flags {S S0 : Shape} (x : FVec Ideal S .f32) (dims : Fin S0.rank → Fin S.rank) (hb : S0.BroadcastsInDim S dims)
    (h : cmpf .olt (Host.absf x) (broadcastInDim S dims hb (constant (F := Ideal) S0 .f32 0x7F800000#32)) = (fun _ => 1#1)) (i : S.Idx) : IsReal (x i) := by
  have e := congrFun h i
  exact isReal_of_abs ((congrArg (Ideal.cmp .olt (max (x i) (-(x i)))) pos_inf.symm).trans e)

open Cert.KernelIdeal Cert.KernelIdeal.Gen Cert.KernelIdeal.Run

variable (m : (ℓ : Loc nD τ sig) → Buf (Elt Ideal) ℓ) (c : Dev nD)

/-- The arguments that reach the results are finite. -/
structure Reals : Prop where
  h : ∀ i, IsReal (aH m c i)
  kv : ∀ i, IsReal (aKv m c i)
  z : ∀ i, IsReal (aZ m c i)
  b : ∀ i, IsReal (aB m c i)
  dq : ∀ i, IsReal (aDq m c i)
  iuq : ∀ i, IsReal (aIuq m c i)
  w : ∀ i, IsReal (aW m c i)

theorem reals (hp : @Cert.Pre_KernelIdeal_finite_inputs preFacts m) : Reals m c := by
  obtain ⟨h0, h2, h4, h6, h7, h8, h9⟩ := hp c
  exact ⟨reals_of_flags _ _ _ h0, reals_of_flags _ _ _ h2, reals_of_flags _ _ _ h4, reals_of_flags _ _ _ h6, reals_of_flags _ _ _ h7,
    reals_of_flags _ _ _ h8, reals_of_flags _ _ _ h9⟩

variable {m c}

/-- No masked score is +∞. -/
theorem scoreOf_ne_top (hr : Reals m c) (b : Fin 2) (t : Fin 4096) (n : Fin 256) :
    scoreOf (aH m c) (aKv m c) (aZ m c) (aB m c) (aDq m c) (aIuq m c) (aW m c) b t n ≠ ⊤ := by
  unfold scoreOf masked
  by_cases h : n.val * 16 + 15 < t.val
  · rw [if_pos h]
    exact (score_real hr.dq hr.iuq hr.w (fun k => hr.h _) (fun d => comp_real hr.kv hr.z hr.b (fun x k => hr.h _) d)).ne_top
  · rw [if_neg h]
    exact bot_ne_top

variable (m c)

/-- The reference's keys. -/
abbrev rKeys : FVec Ideal Cert.ReferenceIdeal.S2x256x64 .f32 := refComp (aH m c) (aKv m c) (aZ m c) (aB m c)

theorem rKeys_at (b : Fin 2) (n : Fin 256) (d : Fin 64) : rKeys m c (ix3 b n d) = keyOf (aH m c) (aKv m c) (aZ m c) (aB m c) b n d :=
  refComp_at _ _ _ _ b n d

theorem rKeys_eq : rKeys m c = keysAll m c := by
  funext i
  obtain ⟨b, n, d, rfl⟩ : ∃ (b : Fin 2) (n : Fin 256) (d : Fin 64), i = ix3 b n d := ix3_surj i
  exact rKeys_at m c b n d

/-- The reference's masked scores. -/
abbrev rScores : FVec Ideal Cert.ReferenceIdeal.S2x4096x256 .f32 := refMasked (refScore (aH m c) (aDq m c) (aIuq m c) (aW m c) (rKeys m c))

theorem rScores_at (b : Fin 2) (t : Fin 4096) (n : Fin 256) :
    rScores m c (ix3 b t n) = scoreOf (aH m c) (aKv m c) (aZ m c) (aB m c) (aDq m c) (aIuq m c) (aW m c) b t n := by
  unfold rScores scoreOf
  rw [refMasked_at, refScore_at]
  congr 2
  funext d
  exact rKeys_at m c b n d

theorem rPos_eq (hr : Reals m c) : refTop (rScores m c) = posAll m c := by
  funext i
  obtain ⟨b, t, j, rfl⟩ : ∃ (b : Fin 2) (t : Fin 4096) (j : Fin 64), i = ix3 b t j := ix3_surj i
  rw [refTop_at _ b t j fun n => by rw [rScores_at]; exact scoreOf_ne_top hr b t n]
  refine Eq.trans ?_ (show posOf (aH m c) (aKv m c) (aZ m c) (aB m c) (aDq m c) (aIuq m c) (aW m c) b t j = posAll m c (ix3 b t j) from rfl)
  unfold posOf
  congr 1
  funext n
  exact rScores_at m c b t n

/-! ## The reference's run -/

/-- The reference's second result, by its parts. -/
theorem ref_out1 (m' : (ℓ : Loc Cert.ReferenceIdeal.nD Cert.ReferenceIdeal.τ Cert.ReferenceIdeal.sig) → Buf (Elt Ideal) ℓ) (c : Dev Cert.ReferenceIdeal.nD) :
    Cert.ReferenceIdeal.Value.res_main_v61 m' c
      = refTop (refMasked (refScore (m' ((c.tc : Thread Cert.ReferenceIdeal.nD Cert.ReferenceIdeal.τ).loc Cert.ReferenceIdeal.main_arg0))
          (m' ((c.tc : Thread Cert.ReferenceIdeal.nD Cert.ReferenceIdeal.τ).loc Cert.ReferenceIdeal.main_arg7))
          (m' ((c.tc : Thread Cert.ReferenceIdeal.nD Cert.ReferenceIdeal.τ).loc Cert.ReferenceIdeal.main_arg8))
          (m' ((c.tc : Thread Cert.ReferenceIdeal.nD Cert.ReferenceIdeal.τ).loc Cert.ReferenceIdeal.main_arg9))
          (refComp (m' ((c.tc : Thread Cert.ReferenceIdeal.nD Cert.ReferenceIdeal.τ).loc Cert.ReferenceIdeal.main_arg0))
            (m' ((c.tc : Thread Cert.ReferenceIdeal.nD Cert.ReferenceIdeal.τ).loc Cert.ReferenceIdeal.main_arg2))
            (m' ((c.tc : Thread Cert.ReferenceIdeal.nD Cert.ReferenceIdeal.τ).loc Cert.ReferenceIdeal.main_arg4))
            (m' ((c.tc : Thread Cert.ReferenceIdeal.nD Cert.ReferenceIdeal.τ).loc Cert.ReferenceIdeal.main_arg6))))) := by
  unfold Cert.ReferenceIdeal.Value.res_main_v61
  rfl

/-- From finite arguments the two programs leave the same results. -/
theorem agree : @Cert.algebraic_KernelIdeal_ReferenceIdeal_pre_finite_inputs Cert.KernelIdeal.Gen.facts Cert.ReferenceIdeal.Gen.facts preFacts := by
  intro m g m' g' hp hm
  refine ⟨fun c => keysAll m c, fun c => posAll m c, ?_, ?_⟩
  · exact (θ_run Cert.KernelIdeal.defs _ _).mono (fun r h => h.1) (runs m g)
  · refine (θ_run Cert.ReferenceIdeal.defs _ _).mono (fun r h c => ?_) (Cert.ReferenceIdeal.Value.run m' g')
    obtain ⟨e0, e1, hargs⟩ := h c
    obtain ⟨a0, a1, a2, a3, a4, a5, a6, a7, a8, a9⟩ := hm c
    refine ⟨e0.trans ?_, (e1.trans (ref_out1 m' c)).trans ?_, hargs⟩
    · rw [a0, a2, a4, a6]
      exact rKeys_eq m c
    · rw [a0, a2, a4, a6, a7, a8, a9]
      exact rPos_eq m c (reals m c hp)

end Cert.Value

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Regions
public import proofs.«01_k».proof.Proof.Gen.Kernel.Points
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Regions
public import proofs.«01_k».proof.Proof.Gen.KernelIdeal.Points
public import proofs.«01_k».proof.Proof.Gen.ReferenceIdeal
public import proofs.«01_k».proof.Proof.KbMain
public import proofs.«01_k».proof.Proof.KiMain
public import proofs.«01_k».proof.Proof.Gen.ReferenceIdeal.Run
public import proofs.«01_k».proof.Proof.Agree
public import Idealize.ShloMosaic.Adequacy
public import Idealize.ShloMosaic.Init

@[expose] public section

noncomputable section

namespace Cert.Proof

open Idealize.ShloMosaic Idealize.SL.Sem Cert.Kernel

/-- The reference's run leaves its arguments as launched and every semaphore counter at zero, whatever it starts from. -/
theorem referenceFrame : @Cert.quiescent_ReferenceIdeal Cert.ReferenceIdeal.Gen.facts := fun m g _ =>
  (θ_run Cert.ReferenceIdeal.defs _ _).mono (fun r h => ⟨fun c => (h c).2.2, sem_eq_zero_of_no_sems (by decide) r.2⟩) (Cert.ReferenceIdeal.Value.run m g)

theorem claim : Cert.Claim := ⟨Cert.Kernel.Gen.facts, Cert.KernelIdeal.Gen.facts, Cert.ReferenceIdeal.Gen.facts, Cert.Value.preFacts,
  fun m g _ => Cert.Kernel.Run.frame m g,
  fun m g _ => Cert.KernelIdeal.Run.frame m g,
  fun m g _ => Cert.KernelIdeal.Run.frame m g,
  referenceFrame,
  fun m g _ => referenceFrame m g trivial,
  trivial,
  Cert.Value.agree⟩

end Cert.Proof

end
